-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S3x1024x27648 : Shape := ⟨3, ![3, 1024, 27648]⟩
abbrev S27648x5120 : Shape := ⟨2, ![27648, 5120]⟩
abbrev S5120 : Shape := ⟨1, ![5120]⟩
abbrev S_ : Shape := ⟨0, ![]⟩

class Facts : Prop where
  bitsLt_bf16_f32 : FTy.bits .bf16 < FTy.bits .f32
  bcast_S_S3x1024x27648 : S_.BroadcastsInDim S3x1024x27648 (![] : Fin 0 → Fin S3x1024x27648.rank)

variable [Facts]

def fn {F : FTy → Type} [FloatOps F] (main_arg0 : FVec F S3x1024x27648 .bf16) (main_arg1 : FVec F S27648x5120 .fp8e4m3) (main_arg2 : FVec F S5120 .f32) : IVec S3x1024x27648 1 :=
  let main_v0 : FVec F S3x1024x27648 .f32 := (extf .f32 · bitsLt_bf16_f32) main_arg0
  let main_v1 : FVec F S3x1024x27648 .f32 := Host.absf main_v0
  let main_cst : FVec F S_ .f32 := constant S_ .f32 0x7F7F0000#32
  let main_v2 : FVec F S3x1024x27648 .f32 := broadcastInDim S3x1024x27648 ![] bcast_S_S3x1024x27648 main_cst
  let main_v3 : IVec S3x1024x27648 1 := cmpf .ole main_v1 main_v2
  main_v3
-- ==== Kernel.lean ====
abbrev S3x1024x27648 : Shape := ⟨3, ![3, 1024, 27648]⟩
abbrev S27648x5120 : Shape := ⟨2, ![27648, 5120]⟩
abbrev S5120 : Shape := ⟨1, ![5120]⟩
abbrev S3072x27648 : Shape := ⟨2, ![3072, 27648]⟩
abbrev S3072x1 : Shape := ⟨2, ![3072, 1]⟩
abbrev S64x27648 : Shape := ⟨2, ![64, 27648]⟩
abbrev S64x1 : Shape := ⟨2, ![64, 1]⟩
abbrev S64 : Shape := ⟨1, ![64]⟩
abbrev S1x5120 : Shape := ⟨2, ![1, 5120]⟩
abbrev S384x8x5120 : Shape := ⟨3, ![384, 8, 5120]⟩
abbrev S512x27648 : Shape := ⟨2, ![512, 27648]⟩
abbrev S27648x512 : Shape := ⟨2, ![27648, 512]⟩
abbrev S512x1 : Shape := ⟨2, ![512, 1]⟩
abbrev S1x512 : Shape := ⟨2, ![1, 512]⟩
abbrev S64x8x512 : Shape := ⟨3, ![64, 8, 512]⟩
abbrev S512x512 : Shape := ⟨2, ![512, 512]⟩
abbrev S3x1024x5120 : Shape := ⟨3, ![3, 1024, 5120]⟩
abbrev S3x1024x1 : Shape := ⟨3, ![3, 1024, 1]⟩

abbrev nBuf : Space → Nat
  | .hbm => 11
  | .vmem => 16
  | .smem => 0
  | _ => 0

abbrev bufTy : (tb : Table) → Fin (tcTables nBuf tb) → BufTy
  | .hbm, ⟨0, _⟩ => ⟨S3x1024x27648, .bf16⟩
  | .hbm, ⟨1, _⟩ => ⟨S27648x5120, .fp8e4m3⟩
  | .hbm, ⟨2, _⟩ => ⟨S5120, .f32⟩
  | .hbm, ⟨3, _⟩ => ⟨S3072x27648, .bf16⟩
  | .hbm, ⟨4, _⟩ => ⟨S3072x27648, .fp8e4m3⟩
  | .hbm, ⟨5, _⟩ => ⟨S3072x1, .f32⟩
  | .hbm, ⟨6, _⟩ => ⟨S1x5120, .f32⟩
  | .hbm, ⟨7, _⟩ => ⟨S384x8x5120, .bf16⟩
  | .hbm, ⟨8, _⟩ => ⟨S3x1024x5120, .bf16⟩
  | .hbm, ⟨9, _⟩ => ⟨S3x1024x27648, .fp8e4m3⟩
  | .hbm, ⟨10, _⟩ => ⟨S3x1024x1, .f32⟩
  | .local _ .vmem, ⟨0, _⟩ => ⟨S64x27648, .bf16⟩
  | .local _ .vmem, ⟨1, _⟩ => ⟨S64x27648, .bf16⟩
  | .local _ .vmem, ⟨2, _⟩ => ⟨S64x27648, .fp8e4m3⟩
  | .local _ .vmem, ⟨3, _⟩ => ⟨S64x27648, .fp8e4m3⟩
  | .local _ .vmem, ⟨4, _⟩ => ⟨S64x1, .f32⟩
  | .local _ .vmem, ⟨5, _⟩ => ⟨S64x1, .f32⟩
  | .local _ .vmem, ⟨6, _⟩ => ⟨S512x27648, .fp8e4m3⟩
  | .local _ .vmem, ⟨7, _⟩ => ⟨S512x27648, .fp8e4m3⟩
  | .local _ .vmem, ⟨8, _⟩ => ⟨S27648x512, .fp8e4m3⟩
  | .local _ .vmem, ⟨9, _⟩ => ⟨S27648x512, .fp8e4m3⟩
  | .local _ .vmem, ⟨10, _⟩ => ⟨S512x1, .f32⟩
  | .local _ .vmem, ⟨11, _⟩ => ⟨S512x1, .f32⟩
  | .local _ .vmem, ⟨12, _⟩ => ⟨S1x512, .f32⟩
  | .local _ .vmem, ⟨13, _⟩ => ⟨S1x512, .f32⟩
  | .local _ .vmem, ⟨14, _⟩ => ⟨S64x8x512, .bf16⟩
  | .local _ .vmem, ⟨15, _⟩ => ⟨S64x8x512, .bf16⟩
  | _, _ => ⟨S3x1024x27648, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x27648 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x27648 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![6, 10], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S512x27648 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S27648x512 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S64x8x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S3x1024x27648 : Shape := ⟨3, ![3, 1024, 27648]⟩
abbrev S27648x5120 : Shape := ⟨2, ![27648, 5120]⟩
abbrev S5120 : Shape := ⟨1, ![5120]⟩
abbrev S3x1024x5120 : Shape := ⟨3, ![3, 1024, 5120]⟩
abbrev S3x1024x1 : Shape := ⟨3, ![3, 1024, 1]⟩
abbrev S3x1024 : Shape := ⟨2, ![3, 1024]⟩
abbrev S1x1x5120 : Shape := ⟨3, ![1, 1, 5120]⟩

abbrev nBuf : Space → Nat
  | .hbm => 6
  | .vmem => 6
  | .smem => 0
  | _ => 0

abbrev bufTy : (tb : Table) → Fin (tcTables nBuf tb) → BufTy
  | .hbm, ⟨0, _⟩ => ⟨S3x1024x27648, .bf16⟩
  | .hbm, ⟨1, _⟩ => ⟨S27648x5120, .fp8e4m3⟩
  | .hbm, ⟨2, _⟩ => ⟨S5120, .f32⟩
  | .hbm, ⟨3, _⟩ => ⟨S3x1024x5120, .bf16⟩
  | .hbm, ⟨4, _⟩ => ⟨S3x1024x27648, .fp8e4m3⟩
  | .hbm, ⟨5, _⟩ => ⟨S3x1024x1, .f32⟩
  | .local _ .vmem, ⟨0, _⟩ => ⟨S3x1024x27648, .bf16⟩
  | .local _ .vmem, ⟨1, _⟩ => ⟨S27648x5120, .fp8e4m3⟩
  | .local _ .vmem, ⟨2, _⟩ => ⟨S5120, .f32⟩
  | .local _ .vmem, ⟨3, _⟩ => ⟨S3x1024x5120, .bf16⟩
  | .local _ .vmem, ⟨4, _⟩ => ⟨S3x1024x27648, .fp8e4m3⟩
  | .local _ .vmem, ⟨5, _⟩ => ⟨S3x1024x1, .f32⟩
  | _, _ => ⟨S3x1024x27648, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x1024x27648 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S27648x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1024x27648 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scalar.lean ====
/-
  The quantiser's scale, at one row, over the extended reals. The kernel finds the exponent field of `t` (the row's
  greatest magnitude over 448) by eight comparisons with powers of two, and makes the scale and its reciprocal by placing
  an exponent field in a word. The reference takes `⌊log t / log 2⌋ + 1` and two powers of two. This file shows that the two
  agree of every real `0 ≤ t < 2^120`.
-/
module

public import Idealize.ShloMosaic.PureOps.Ideal.Laws
public import Mathlib.Analysis.SpecialFunctions.Log.Basic

@[expose] public section

noncomputable section

namespace Cert.Quant

open Idealize.ShloMosaic

/-! ## The two scalar functions -/

/-- The f32 pattern with the exponent field `f` and no fraction. -/
def pat (f : BitVec 32) : EReal := Ideal.ofBits .f32 (IntOp.shli .vector f 23#32)

/-- One step of the kernel's search: the bit `b` is set when `t` is at least the power of two with that field. -/
def step (t : EReal) (b f : BitVec 32) : BitVec 32 :=
  Scalar.select (Ideal.cmp .oge t (pat (IntOp.addi f b))) (IntOp.addi f b) f

/-- The search's first three steps. -/
def field3 (t : EReal) : BitVec 32 := step t 32#32 (step t 64#32 (step t 128#32 0#32))

/-- The search's last five steps. -/
def field5 (t : EReal) (f : BitVec 32) : BitVec 32 :=
  step t 1#32 (step t 2#32 (step t 4#32 (step t 8#32 (step t 16#32 f))))

/-- The exponent field that the kernel finds. -/
def field (t : EReal) : BitVec 32 := field5 t (field3 t)

/-- The kernel's exponent: the field less 126, and 0 of the fields 0 and 255 and of a zero row. -/
def kexp (a t : EReal) : BitVec 32 :=
  Scalar.select (IntOp.ori (IntOp.ori (IntOp.cmpi .eq (field t) 0#32) (IntOp.cmpi .eq (field t) 255#32))
    (Ideal.cmp .oeq a (Ideal.ofBits .f32 0x00000000#32))) 0#32 (IntOp.subi (field t) 126#32)

/-- The kernel's scale. -/
def kscale (a t : EReal) : EReal := pat (IntOp.addi 127#32 (kexp a t))

/-- The kernel's reciprocal of the scale. -/
def kinv (a t : EReal) : EReal := pat (IntOp.subi 127#32 (kexp a t))

/-- The reference's exponent. -/
def rexp (t : EReal) : EReal :=
  Scalar.select (Ideal.cmp .olt t (Ideal.ofBits .f32 0x00800000#32)) (Ideal.ofBits .f32 0x00000000#32)
    (Ideal.liftRound Int.floor (Ideal.div (Ideal.log t) (Ideal.log (Ideal.ofBits .f32 0x40000000#32)))
      + Ideal.ofBits .f32 0x3F800000#32)

/-- The reference's scale. -/
def rscale (t : EReal) : EReal := Ideal.exp2 (rexp t)

/-- The reference's reciprocal of the scale. -/
def rinv (t : EReal) : EReal := Ideal.exp2 (Ideal.ofBits .f32 0x00000000#32 - rexp t)

/-! ## Patterns -/

/-- A pattern with exponent field `1 ≤ k ≤ 254` and no fraction is `2^(k - 127)`. -/
theorem pat_ofNat (k : ℕ) (h1 : 1 ≤ k) (h2 : k ≤ 254) :
    pat (BitVec.ofNat 32 k) = (((2 : ℝ) ^ ((k : ℤ) - 127) : ℝ) : EReal) := by
  have hs : IntOp.shli .vector (BitVec.ofNat 32 k) 23#32 = BitVec.ofNat 32 (k * 2 ^ 23) := by
    have : IntOp.shli .vector (BitVec.ofNat 32 k) 23#32 = BitVec.ofNat 32 k <<< 23#32 := by
      unfold IntOp.shli; exact if_pos (by decide)
    rw [this]
    apply BitVec.eq_of_toNat_eq
    simp [Nat.shiftLeft_eq]
  have hn : (BitVec.ofNat 32 (k * 2 ^ 23)).toNat = k * 2 ^ 23 := by
    rw [BitVec.toNat_ofNat]; exact Nat.mod_eq_of_lt (by omega)
  have hex : ((BitVec.ofNat 32 (k * 2 ^ 23)).extractLsb' 23 8).toNat = k := by
    rw [BitVec.extractLsb'_toNat, hn, Nat.shiftRight_eq_div_pow]; omega
  have hfr : ((BitVec.ofNat 32 (k * 2 ^ 23)).extractLsb' 0 23).toNat = 0 := by
    rw [BitVec.extractLsb'_toNat, hn, Nat.shiftRight_eq_div_pow]; omega
  have hsg : (BitVec.ofNat 32 (k * 2 ^ 23)).extractLsb' 31 1 = 0#1 := by
    apply BitVec.eq_of_toNat_eq
    rw [BitVec.extractLsb'_toNat, hn, Nat.shiftRight_eq_div_pow]; simp; omega
  unfold pat
  rw [hs]
  simp only [Ideal.ofBits, Ideal.ieee, hex, hfr, hsg]
  rw [if_neg (by omega), if_neg (by omega)]
  congr 1
  have e : ((k : ℤ) - 127) = 23 + ((k : ℤ) - (2 ^ (8 - 1) - 1) - (23 : ℕ)) := by norm_num
  rw [e, zpow_add₀ (by norm_num)]
  norm_num

/-- The pattern with exponent field 255 and no fraction is `+∞`. -/
theorem pat_255 : pat (BitVec.ofNat 32 255) = ⊤ := by
  have hs : IntOp.shli .vector (BitVec.ofNat 32 255) 23#32 = 0x7F800000#32 := by decide
  unfold pat
  rw [hs]
  simp [Ideal.ofBits, Ideal.ieee]

theorem ofBits_tiny : Ideal.ofBits .f32 0x00800000#32 = (((2 : ℝ) ^ (-126 : ℤ) : ℝ) : EReal) := by
  have h := pat_ofNat 1 (by decide) (by decide)
  have hs : IntOp.shli .vector (BitVec.ofNat 32 1) 23#32 = 0x00800000#32 := by decide
  unfold pat at h
  rw [hs] at h
  rw [h]; norm_num

theorem ofBits_one : Ideal.ofBits .f32 0x3F800000#32 = ((1 : ℝ) : EReal) := by
  have h := pat_ofNat 127 (by decide) (by decide)
  have hs : IntOp.shli .vector (BitVec.ofNat 32 127) 23#32 = 0x3F800000#32 := by decide
  unfold pat at h
  rw [hs] at h
  rw [h]; norm_num

theorem ofBits_two : Ideal.ofBits .f32 0x40000000#32 = ((2 : ℝ) : EReal) := by
  have h := pat_ofNat 128 (by decide) (by decide)
  have hs : IntOp.shli .vector (BitVec.ofNat 32 128) 23#32 = 0x40000000#32 := by decide
  unfold pat at h
  rw [hs] at h
  rw [h]; norm_num

/-! ## The search -/

/-- `select` on a decided comparison. -/
theorem select_ofBool {α : Type} (p : Prop) [Decidable p] (x y : α) :
    Scalar.select (BitVec.ofBool (decide p)) x y = if p then x else y := by
  by_cases h : p <;> simp [Scalar.select, h]

/-- `n` is the number of powers of two `2^(k - 127)`, `1 ≤ k ≤ 254`, that are at most `t`. -/
def Counts (t : EReal) (n : ℕ) : Prop := n ≤ 254 ∧ ∀ k : ℕ, 1 ≤ k → k ≤ 255 → (pat (BitVec.ofNat 32 k) ≤ t ↔ k ≤ n)

theorem step_eq {t : EReal} {n : ℕ} (h : Counts t n) (b f : ℕ) (h1 : 1 ≤ f + b) (h2 : f + b ≤ 255) :
    step t (BitVec.ofNat 32 b) (BitVec.ofNat 32 f) = BitVec.ofNat 32 (if f + b ≤ n then f + b else f) := by
  have ha : IntOp.addi (BitVec.ofNat 32 f) (BitVec.ofNat 32 b) = BitVec.ofNat 32 (f + b) := by
    rw [BitVec.ofNat_add]; rfl
  unfold step
  rw [ha]
  show Scalar.select (BitVec.ofBool (decide (pat (BitVec.ofNat 32 (f + b)) ≤ t))) _ _ = _
  rw [select_ofBool]
  by_cases hc : f + b ≤ n
  · rw [if_pos ((h.2 _ h1 h2).mpr hc), if_pos hc]
  · rw [if_neg (fun e => hc ((h.2 _ h1 h2).mp e)), if_neg hc]

/-- The search as a function of the count. -/
def walk (n b f : ℕ) : ℕ := if f + b ≤ n then f + b else f

theorem walk_le {n b f : ℕ} {N : ℕ} (h : f + b ≤ N) : walk n b f ≤ N := by
  unfold walk; split <;> omega

/-- The kernel's search finds the count. -/
theorem field_eq {t : EReal} {n : ℕ} (h : Counts t n) : field t = BitVec.ofNat 32 n := by
  have key : ∀ n < 255, walk n 1 (walk n 2 (walk n 4 (walk n 8 (walk n 16 (walk n 32 (walk n 64 (walk n 128 0))))))) = n := by
    decide +kernel
  have e1 : walk n 128 0 ≤ 128 := walk_le (by omega)
  have e2 : walk n 64 (walk n 128 0) ≤ 192 := walk_le (by omega)
  have e3 : walk n 32 (walk n 64 (walk n 128 0)) ≤ 224 := walk_le (by omega)
  have e4 : walk n 16 (walk n 32 (walk n 64 (walk n 128 0))) ≤ 240 := walk_le (by omega)
  have e5 : walk n 8 (walk n 16 (walk n 32 (walk n 64 (walk n 128 0)))) ≤ 248 := walk_le (by omega)
  have e6 : walk n 4 (walk n 8 (walk n 16 (walk n 32 (walk n 64 (walk n 128 0))))) ≤ 252 := walk_le (by omega)
  have e7 : walk n 2 (walk n 4 (walk n 8 (walk n 16 (walk n 32 (walk n 64 (walk n 128 0)))))) ≤ 254 := walk_le (by omega)
  have s (b f : ℕ) (h1 : 1 ≤ b) (h2 : f + b ≤ 255) :
      step t (BitVec.ofNat 32 b) (BitVec.ofNat 32 f) = BitVec.ofNat 32 (walk n b f) := step_eq h b f (by omega) h2
  unfold field field5 field3
  rw [s 128 0 (by omega) (by omega), s 64 _ (by omega) (by omega), s 32 _ (by omega) (by omega),
    s 16 _ (by omega) (by omega), s 8 _ (by omega) (by omega), s 4 _ (by omega) (by omega),
    s 2 _ (by omega) (by omega), s 1 _ (by omega) (by omega), key n (by have := h.1; omega)]

/-! ## The count of a real -/

/-- Of a real below `2^-126` no power counts. -/
theorem counts_small {τ : ℝ} (h : τ < (2 : ℝ) ^ (-126 : ℤ)) : Counts (τ : EReal) 0 := by
  refine ⟨by omega, fun k h1 h2 => ⟨fun hk => ?_, fun hk => by omega⟩⟩
  exfalso
  rcases Nat.lt_or_ge k 255 with h3 | h3
  · rw [pat_ofNat k h1 (by omega), EReal.coe_le_coe_iff] at hk
    have : (2 : ℝ) ^ (-126 : ℤ) ≤ (2 : ℝ) ^ ((k : ℤ) - 127) := zpow_le_zpow_right₀ (by norm_num) (by omega)
    linarith
  · obtain rfl : k = 255 := by omega
    rw [pat_255, top_le_iff] at hk
    exact EReal.coe_ne_top _ hk

/-- The floor of the binary logarithm. -/
def flog (τ : ℝ) : ℤ := ⌊Real.log τ * (1 / Real.log 2)⌋

/-- A power of two is at most `τ` exactly when its exponent is at most the floor of the binary logarithm. -/
theorem zpow_le_iff {τ : ℝ} (hpos : 0 < τ) (x : ℤ) : (2 : ℝ) ^ x ≤ τ ↔ x ≤ flog τ := by
  have hl2 : 0 < Real.log 2 := Real.log_pos (by norm_num)
  unfold flog
  rw [Int.le_floor, mul_one_div, le_div_iff₀ hl2, ← Real.log_zpow, Real.log_le_log_iff (by positivity) hpos]

/-- Of a real from `2^-126` on, below `2^127`, the count is the floor of its binary logarithm, plus 127. -/
theorem counts_normal {τ : ℝ} (h : (2 : ℝ) ^ (-126 : ℤ) ≤ τ) (h' : τ < (2 : ℝ) ^ (127 : ℤ)) :
    Counts (τ : EReal) (flog τ + 127).toNat ∧ -126 ≤ flog τ ∧ flog τ < 127 := by
  have hpos : 0 < τ := lt_of_lt_of_le (by positivity) h
  have lo : -126 ≤ flog τ := (zpow_le_iff hpos _).mp h
  have hi : flog τ < 127 := lt_of_not_ge fun e => (not_le.mpr h') ((zpow_le_iff hpos _).mpr e)
  refine ⟨⟨by omega, fun k h1 h2 => ?_⟩, lo, hi⟩
  rcases Nat.lt_or_ge k 255 with h3 | h3
  · rw [pat_ofNat k h1 (by omega), EReal.coe_le_coe_iff]
    rw [zpow_le_iff hpos]
    omega
  · obtain rfl : k = 255 := by omega
    rw [pat_255, top_le_iff]
    exact ⟨fun e => absurd e (EReal.coe_ne_top _), fun e => by omega⟩

/-! ## The two scales agree -/

theorem exp2_int (z : ℤ) : Ideal.exp2 ((z : ℝ) : EReal) = (((2 : ℝ) ^ z : ℝ) : EReal) := by
  rw [Ideal.exp2_coe]; congr 1; exact Real.rpow_intCast 2 z

/-- The reference's exponent of a real below `2^-126` is 0. -/
theorem rexp_small {τ : ℝ} (h : τ < (2 : ℝ) ^ (-126 : ℤ)) : rexp (τ : EReal) = (((0 : ℤ) : ℝ) : EReal) := by
  unfold rexp
  rw [ofBits_tiny]
  show Scalar.select (BitVec.ofBool (decide _)) _ _ = _
  rw [select_ofBool, if_pos (EReal.coe_lt_coe_iff.mpr h), Ideal.ofBits_zero_f32]; simp

/-- The reference's exponent of a real from `2^-126` on is the floor of its binary logarithm, plus 1. -/
theorem rexp_normal {τ : ℝ} (h : (2 : ℝ) ^ (-126 : ℤ) ≤ τ) : rexp (τ : EReal) = (((flog τ + 1 : ℤ) : ℝ) : EReal) := by
  have hpos : 0 < τ := lt_of_lt_of_le (by positivity) h
  have hl2 : Real.log 2 ≠ 0 := (Real.log_pos (by norm_num)).ne'
  unfold rexp
  rw [ofBits_tiny]
  show Scalar.select (BitVec.ofBool (decide _)) _ _ = _
  rw [select_ofBool, if_neg (by rw [EReal.coe_lt_coe_iff]; linarith), ofBits_two, ofBits_one, Ideal.log_coe, Ideal.log_coe,
    if_neg (by linarith), if_neg (by norm_num), Ideal.div_coe hl2, ← EReal.coe_mul, Ideal.liftRound_coe, ← EReal.coe_add]
  congr 1
  show ((flog τ : ℤ) : ℝ) + 1 = _
  push_cast; rfl

theorem cmpi_eq_ofNat (n k : ℕ) (hn : n ≤ 255) (hk : k ≤ 255) :
    IntOp.cmpi .eq (BitVec.ofNat 32 n) (BitVec.ofNat 32 k) = BitVec.ofBool (decide (n = k)) := by
  show BitVec.ofBool (BitVec.ofNat 32 n == BitVec.ofNat 32 k) = _
  congr 1
  have : (BitVec.ofNat 32 n = BitVec.ofNat 32 k) ↔ n = k := by
    rw [← BitVec.toNat_inj, BitVec.toNat_ofNat, BitVec.toNat_ofNat]; omega
  by_cases h : n = k
  · simp [h]
  · simp [h, beq_eq_false_iff_ne, this]

/-- The kernel's exponent where the count is 0. -/
theorem kexp_zero {a t : EReal} (h : Counts t 0) : kexp a t = 0#32 := by
  unfold kexp
  rw [field_eq h, cmpi_eq_ofNat 0 0 (by omega) (by omega), cmpi_eq_ofNat 0 255 (by omega) (by omega)]
  show Scalar.select (IntOp.ori _ (BitVec.ofBool (decide _))) _ _ = _
  generalize decide (a = Ideal.ofBits .f32 0x00000000#32) = b
  cases b <;> rfl

/-- The kernel's exponent where the count is `n ≥ 1` and the row is not zero. -/
theorem kexp_pos {a t : EReal} {n : ℕ} (h : Counts t n) (hn : 1 ≤ n) (ha : a ≠ 0) :
    kexp a t = IntOp.subi (BitVec.ofNat 32 n) 126#32 := by
  have := h.1
  unfold kexp
  rw [field_eq h, cmpi_eq_ofNat n 0 (by omega) (by omega), cmpi_eq_ofNat n 255 (by omega) (by omega), Ideal.ofBits_zero_f32]
  show Scalar.select (IntOp.ori _ (BitVec.ofBool (decide _))) _ _ = _
  rw [decide_eq_false (by omega : ¬ n = 0), decide_eq_false (by omega : ¬ n = 255), decide_eq_false ha]
  rfl

/-- The scale and its reciprocal agree with the reference's, of a row whose greatest magnitude `a` over 448 is the real
    `τ` below `2^120`. -/
theorem scale_eq {a : EReal} {τ : ℝ} (ha : a = 0 → τ = 0) (hτ : τ < (2 : ℝ) ^ (120 : ℤ)) :
    kscale a (τ : EReal) = rscale (τ : EReal) ∧ kinv a (τ : EReal) = rinv (τ : EReal) := by
  unfold kscale rscale kinv rinv
  rw [Ideal.ofBits_zero_f32, zero_sub]
  rcases lt_or_ge τ ((2 : ℝ) ^ (-126 : ℤ)) with h | h
  · rw [rexp_small h, kexp_zero (counts_small h), exp2_int, ← EReal.coe_neg]
    have h127 : pat (BitVec.ofNat 32 127) = _ := pat_ofNat 127 (by omega) (by omega)
    refine ⟨?_, ?_⟩
    · show pat (BitVec.ofNat 32 127) = _
      rw [h127]; norm_num
    · show pat (BitVec.ofNat 32 127) = _
      rw [h127, show (-(((0 : ℤ) : ℝ))) = (((0 : ℤ)) : ℝ) by norm_num, exp2_int]; norm_num
  · have h' : τ < (2 : ℝ) ^ (127 : ℤ) := hτ.trans (zpow_lt_zpow_right₀ (by norm_num) (by norm_num))
    have hpos : 0 < τ := lt_of_lt_of_le (by positivity) h
    obtain ⟨hc, lo, _⟩ := counts_normal h h'
    have hi : flog τ < 120 := lt_of_not_ge fun e => (not_le.mpr hτ) ((zpow_le_iff hpos _).mpr e)
    rw [rexp_normal h, kexp_pos hc (by omega) (fun e => hpos.ne' (ha e)), exp2_int, ← EReal.coe_neg]
    generalize hz : flog τ = z at *
    have e1 : IntOp.addi 127#32 (IntOp.subi (BitVec.ofNat 32 (z + 127).toNat) 126#32) = BitVec.ofNat 32 (z + 128).toNat := by
      show 127#32 + (BitVec.ofNat 32 (z + 127).toNat - 126#32) = _
      apply BitVec.eq_of_toNat_eq
      simp only [BitVec.toNat_add, BitVec.toNat_sub, BitVec.toNat_ofNat]; omega
    have e2 : IntOp.subi 127#32 (IntOp.subi (BitVec.ofNat 32 (z + 127).toNat) 126#32) = BitVec.ofNat 32 (126 - z).toNat := by
      show 127#32 - (BitVec.ofNat 32 (z + 127).toNat - 126#32) = _
      apply BitVec.eq_of_toNat_eq
      simp only [BitVec.toNat_sub, BitVec.toNat_ofNat]; omega
    refine ⟨?_, ?_⟩
    · rw [e1, pat_ofNat _ (by omega) (by omega)]
      congr 2; omega
    · rw [e2, pat_ofNat _ (by omega) (by omega)]
      rw [show (-(((z + 1 : ℤ)) : ℝ)) = (((-(z + 1) : ℤ)) : ℝ) by push_cast; ring, exp2_int]
      congr 2; omega

end Cert.Quant

end
-- ==== Proof.Blocks.lean ====
/-
  What one grid point of the idealized kernel computes, from the blocks it reads. A point of the quantiser's launch: the
  scale and the codes of each of its 64 rows. A point of the product's launch: the gelu of the scaled product of 512 rows
  of codes with 512 columns of the weights.
-/
module

public import proofs.«01_k».proof.Proof.Gen.KernelIdeal.Frame
public import proofs.«01_k».proof.Proof.Scalar
public import Idealize.ShloMosaic.Lib.Pipeline.Value
public import Idealize.ShloMosaic.Lib.ValueLayout
public import Idealize.ShloMosaic.Lib.ValueLayoutCasts
public import Idealize.ShloMosaic.Lib.MatmulPlain

@[expose] public section

set_option maxRecDepth 16384

noncomputable section

open Idealize.ShloMosaic Idealize.ShloMosaic.TcCoe Idealize.SL.Sem
open Idealize.ShloMosaic.ValueIdx

/-! ## The functions of one row, and of one element of the product -/

namespace Cert.Quant

/-- A row's greatest magnitude, as a fold of `max` from the pattern of minus infinity. -/
def amax {n : ℕ} (f : Fin n → EReal) : EReal :=
  (Finset.univ : Finset (Fin n)).fold max (Ideal.ofBits .f32 0xFF800000#32) fun k => max (f k) (-(f k))

/-- The row's greatest magnitude times the f32 constant nearest to 1/448. -/
def tval {n : ℕ} (f : Fin n → EReal) : EReal := amax f * Ideal.ofBits .f32 0x3B124925#32

/-- One code: the element times the scale's reciprocal, clipped to ±448. -/
def code (inv v : EReal) : EReal :=
  min (Ideal.ofBits .f32 0x43E00000#32) (max (Ideal.ofBits .f32 0xC3E00000#32) (v * inv))

/-- The tanh form of gelu, as both programs spell it. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

end Cert.Quant

namespace Cert.KernelIdeal.Blocks

open Cert.KernelIdeal Cert.KernelIdeal.Gen Cert.Quant

/-- The zero offsets of a rank-2 access. -/
theorem hz2 : (![0, 0] : Fin 2 → Nat) = fun _ => 0 := funext fun a => by fin_cases a <;> rfl

/-- The zero offsets of a rank-3 access. -/
theorem hz3 : (![0, 0, 0] : Fin 3 → Nat) = fun _ => 0 := funext fun a => by fin_cases a <;> rfl

/-! ## Vector expressions at an index, at any shape and constants -/

/-- A vector times a splat constant, at an index. -/
theorem mul_splat_apply {s : Shape} (a : FVec Ideal s .f32) (c : BitVec 32) (j : s.Idx) :
    mulf a (broadcast s (FloatOps.ofBits (F := Ideal) .f32 c)) j = (a j * Ideal.ofBits .f32 c : EReal) := rfl

/-- The magnitudes of a widened vector, at an index. -/
theorem abs_ext_apply {s : Shape} (x : FVec Ideal s .bf16) (h : FTy.bf16.bits < FTy.f32.bits) (j : s.Idx) :
    absf (extf .f32 x h) j = max (x j : EReal) (-(x j)) := rfl

/-- The greatest magnitude of a widened vector over one axis, at an index. -/
theorem max_abs_apply {s t : Shape} {a : Fin s.rank} (x : FVec Ideal s .bf16) (hb : FTy.bf16.bits < FTy.f32.bits) (acc : BitVec 32)
    (h : s.Reduces [a] t) (hφ : FKind.Formats .f32) (hacc : acc = FKind.maximumf.neutral .f32 hφ) (j : t.Idx) :
    multiReduction .maximumf [a] t (absf (extf .f32 x hb)) acc h hφ hacc j
      = (Finset.univ : Finset (Fin (s.size a))).fold max (Ideal.ofBits .f32 acc)
          fun k => max (x (h.lift j k) : EReal) (-(x (h.lift j k))) :=
  Ideal.multiReduction_maximumf_single _ _ _ _ _ _

/-- A narrowed vector, at an index. -/
theorem trunc_apply {s : Shape} (v : FVec Ideal s .f32) (h : FTy.bf16.bits < FTy.f32.bits) (j : s.Idx) :
    truncf .bf16 v h j = v j := rfl

/-- The kernel's selection of the exponent, at an index. -/
theorem exp_select_apply {s : Shape} (f : IVec s 32) (a : FVec Ideal s .f32) (z c d e : BitVec 32) (k : BitVec 32) (j : s.Idx) :
    select (ori (ori (cmpi .eq f (broadcast s z)) (cmpi .eq f (broadcast s c)))
      (cmpf .oeq a (broadcast s (FloatOps.ofBits (F := Ideal) .f32 k)))) (broadcast s d) (subi f (broadcast s e)) j
      = Scalar.select (IntOp.ori (IntOp.ori (IntOp.cmpi .eq (f j) z) (IntOp.cmpi .eq (f j) c))
          (Ideal.cmp .oeq (a j) (Ideal.ofBits .f32 k))) d (IntOp.subi (f j) e) := rfl

/-- The clipped product of a widened vector with another, narrowed, at an index. -/
theorem clip_apply {s : Shape} (x : FVec Ideal s .f32) (b : FVec Ideal s .f32) (h : FTy.fp8e4m3.bits < FTy.f32.bits)
    (lo hi : BitVec 32) (j : s.Idx) :
    truncf .fp8e4m3 (minimumf (broadcast s (FloatOps.ofBits (F := Ideal) .f32 hi))
      (maximumf (broadcast s (FloatOps.ofBits (F := Ideal) .f32 lo)) (mulf x b))) h j
      = (min (Ideal.ofBits .f32 hi) (max (Ideal.ofBits .f32 lo) (x j * b j : EReal)) : EReal) := rfl

/-- The printed gelu of a vector, at an index. -/
theorem gelu_apply {s : Shape} (z : FVec Ideal s .f32) (c₁ c₂ c₃ c₄ : BitVec 32) (j : s.Idx) :
    mulf z (mulf (broadcast s (FloatOps.ofBits (F := Ideal) .f32 c₁)) (addf (broadcast s (FloatOps.ofBits (F := Ideal) .f32 c₂))
      (tanh (mulf (broadcast s (FloatOps.ofBits (F := Ideal) .f32 c₃))
        (addf z (mulf (broadcast s (FloatOps.ofBits (F := Ideal) .f32 c₄)) (mulf z (mulf z z)))))))) j
      = (z j * (Ideal.ofBits .f32 c₁ * (Ideal.ofBits .f32 c₂ + Ideal.tanh (Ideal.ofBits .f32 c₃
          * (z j + Ideal.ofBits .f32 c₄ * (z j * (z j * z j)))))) : EReal) := rfl

/-- A product of three vectors, at an index. -/
theorem mul3_apply {s : Shape} (x y z : FVec Ideal s .f32) (j : s.Idx) :
    mulf (mulf x y) z j = (x j * y j * z j : EReal) := rfl

/-! ## The quantiser -/

/-- Row `i` of a block. -/
abbrev row (x : Vec Ideal S64x27648 .bf16) (i : Fin 64) : Fin 27648 → EReal := fun k => x (ix2 i k)

/-- The kernel's row maximum, at row `i`. -/
theorem pay5_apply (x : Vec Ideal S64x27648 .bf16) (i : Fin 64) (u : Fin 1) :
    k0_pay5 x (ix2 i u) = amax (row x i) := by
  unfold k0_pay5 k0_pay4
  rw [shapeCast_a_a1_apply, shapeCast_self]
  refine (max_abs_apply x _ _ _ _ _ _).trans ?_
  have e : ∀ k : Fin 27648, reduces_S64x27648_S64.lift (ix1 i) k = ix2 i k := fun k => by
    funext a
    apply Fin.ext
    match a with
    | ⟨0, _⟩ => rfl
    | ⟨1, _⟩ => rfl
  unfold amax
  exact congrArg (Finset.fold max _ · Finset.univ) (funext fun k =>
    congrArg (fun v : S64x27648.Idx => (max (x v : EReal) (-(x v)))) (e k))

/-- The kernel's `t`, at row `i`. -/
theorem pay6_apply (x : Vec Ideal S64x27648 .bf16) (i : Fin 64) (u : Fin 1) :
    k0_pay6 x (ix2 i u) = tval (row x i) := by
  unfold tval
  rw [← pay5_apply x i u]
  unfold k0_pay6
  exact mul_splat_apply _ _ _

/-- One step of the exponent search, on a column. -/
def vstep (t : FVec Ideal S64x1 .f32) (b : BitVec 32) (f : IVec S64x1 32) : IVec S64x1 32 :=
  select (cmpf .oge t (bitcastToFloat .f32 (shli (addi f (broadcast S64x1 b)) (broadcast S64x1 23#32))))
    (addi f (broadcast S64x1 b)) f

/-- A step at an index is the scalar step there. -/
theorem vstep_apply (t : FVec Ideal S64x1 .f32) (b : BitVec 32) (f : IVec S64x1 32) (j : S64x1.Idx) :
    vstep t b f j = step (t j) b (f j) := by
  unfold vstep step pat; rfl

/-- The search's first three steps, as printed. -/
theorem pay7_eq (x : Vec Ideal S64x27648 .bf16) :
    k0_pay7 x = vstep (k0_pay6 x) 32#32 (vstep (k0_pay6 x) 64#32 (vstep (k0_pay6 x) 128#32 (broadcast S64x1 0#32))) := by
  unfold k0_pay7 vstep; dsimp only

/-- The fourth step's comparison, as printed, and the last five steps. -/
theorem pay9_eq (x : Vec Ideal S64x27648 .bf16) :
    k0_pay9 (k0_pay6 x) (k0_pay7 x) (k0_pay8 x) 16#32
      = vstep (k0_pay6 x) 1#32 (vstep (k0_pay6 x) 2#32 (vstep (k0_pay6 x) 4#32 (vstep (k0_pay6 x) 8#32
          (vstep (k0_pay6 x) 16#32 (k0_pay7 x))))) := by
  unfold k0_pay9 k0_pay8 vstep; dsimp only

/-- The exponent search of the printed payloads, at an index, is `field`. -/
theorem field_apply (x : Vec Ideal S64x27648 .bf16) (j : S64x1.Idx) :
    k0_pay9 (k0_pay6 x) (k0_pay7 x) (k0_pay8 x) 16#32 j = field (k0_pay6 x j) := by
  rw [pay9_eq, pay7_eq]
  simp only [vstep_apply]
  have hb : broadcast S64x1 0#32 j = 0#32 := rfl
  rw [hb]
  unfold field field5 field3
  rfl

/-- The printed exponent, at an index. -/
theorem pay1_apply (x : Vec Ideal S64x27648 .bf16) (j : S64x1.Idx) :
    k0_pay1 (k0_pay5 x) (k0_pay9 (k0_pay6 x) (k0_pay7 x) (k0_pay8 x) 16#32) (k0_pay10 (k0_pay6 x) (k0_pay7 x) (k0_pay8 x) 16#32)
      (k0_pay11 (F := Ideal)) j = kexp (k0_pay5 x j) (k0_pay6 x j) := by
  unfold kexp
  rw [← field_apply]
  unfold k0_pay1 k0_pay10 k0_pay11
  generalize k0_pay9 (k0_pay6 x) (k0_pay7 x) (k0_pay8 x) 16#32 = f
  exact exp_select_apply _ _ _ _ _ _ _ _

/-- The printed scale, at an index, from the maximum and `t` there. -/
theorem pay2_apply (x : Vec Ideal S64x27648 .bf16) (j : S64x1.Idx) :
    k0_pay2 (k0_pay5 x) (k0_pay9 (k0_pay6 x) (k0_pay7 x) (k0_pay8 x) 16#32) (k0_pay10 (k0_pay6 x) (k0_pay7 x) (k0_pay8 x) 16#32)
      (k0_pay11 (F := Ideal)) j = kscale (k0_pay5 x j) (k0_pay6 x j) := by
  unfold kscale
  rw [← pay1_apply]
  unfold k0_pay2 pat
  generalize k0_pay1 (k0_pay5 x) _ _ _ = e
  rfl

/-- The scale window after the body holds `kscale` of each row. -/
theorem out_scale (x : Vec Ideal S64x27648 .bf16) (i : Fin 64) (u : Fin 1) :
    out0_2 x (ix2 i u) = kscale (amax (row x i)) (tval (row x i)) := by
  unfold_out out0_2
  rw [View.canon_unit_zero hz2, View.ld_unit_zero hz2, pay2_apply, pay5_apply, pay6_apply]

/-- The code window after the body holds `code` of each element, at its row's reciprocal. -/
theorem out_code (x : Vec Ideal S64x27648 .bf16) (i : Fin 64) (k : Fin 27648) :
    out0_1 x (ix2 i k) = code (kinv (amax (row x i)) (tval (row x i))) (x (ix2 i k)) := by
  unfold_out out0_1
  rw [View.canon_unit_zero hz2, View.ld_unit_zero hz2]
  unfold k0_pay3 k0_pay4
  rw [shapeCast_self]
  have hb : ∀ v : FVec Ideal S64x1 .f32, broadcastTo S64x27648 v broadcasts_S64x1_S64x27648 (ix2 i k) = v (ix2 i 0) := fun v =>
    broadcastTo_apply v _ _ _ fun a => by
      match a with
      | ⟨0, _⟩ => rfl
      | ⟨1, _⟩ => rfl
  refine (clip_apply _ _ _ _ _ _).trans ?_
  rw [hb]
  unfold code kinv pat
  rw [← pay5_apply x i 0, ← pay6_apply x i 0, ← pay1_apply]
  generalize k0_pay1 (k0_pay5 x) _ _ _ = e
  rfl

/-! ## The product and the gelu -/

/-- One element of the product's window after the body. -/
theorem out_gelu (q : Vec Ideal S512x27648 .fp8e4m3) (w : Vec Ideal S27648x512 .fp8e4m3) (s : Vec Ideal S512x1 .f32)
    (ws : Vec Ideal S1x512 .f32) (p : Fin 64) (a : Fin 8) (n : Fin 512) (r : Fin 512) (hr : r.val = 8 * p.val + a.val) :
    out1_4 q w s ws (ix3 p a n)
      = gelu ((∑ k : Fin 27648, (q (ix2 r k) * w (ix2 k n) : EReal)) * s (ix2 r 0) * ws (ix2 0 n)) := by
  unfold out1_4
  rw [View.canon_unit_zero hz3, View.ld_unit_zero hz2, View.ld_unit_zero hz2, View.ld_unit_zero hz2, View.ld_unit_zero hz2]
  have hc : ∀ v : FVec Ideal S512x512 .f32, shapeCast S64x8x512 v shapeCasts_S512x512_S64x8x512 (ix3 p a n) = v (ix2 r n) := fun v =>
    shapeCast_apply v _ _ _ (by
      rw [Shape.rowMajor_val_three, Shape.rowMajor_val_two]
      show r.val * 512 + n.val = (p.val * 8 + a.val) * 512 + n.val
      omega)
  have hm : matmul (F := Ideal) (φ₁ := .fp8e4m3) (φ₂ := .fp8e4m3) dot_S512x27648_S27648x512_S512x512_1_0_0_1_n_n none q w
      (constant S512x512 .f32 0x00000000#32) (ix2 r n) = ∑ k : Fin 27648, (q (ix2 r k) * w (ix2 k n) : EReal) := by
    show FloatOps.matmul (F := Ideal) (φ₁ := .fp8e4m3) (φ₂ := .fp8e4m3) (DotDims.plain 512 27648 512) none q w
      (constant S512x512 .f32 0x00000000#32) (ix2 r n) = _
    rw [Ideal.matmul_plain_apply]
    show Ideal.ofBits .f32 0x00000000#32 + _ = _
    rw [Ideal.ofBits_zero_f32, zero_add]
  have hs : broadcastTo S512x512 s broadcasts_S512x1_S512x512 (ix2 r n) = s (ix2 r 0) :=
    broadcastTo_apply s _ _ _ fun b => by
      match b with
      | ⟨0, _⟩ => rfl
      | ⟨1, _⟩ => rfl
  have hw : broadcastTo S512x512 ws broadcasts_S1x512_S512x512 (ix2 r n) = ws (ix2 0 n) := broadcastTo_1b_ab_apply ws _ _ _
  unfold k1_pay1
  rw [shapeCast_self, shapeCast_self, shapeCast_self]
  rw [trunc_apply, hc, gelu_apply]
  unfold gelu
  rw [mul3_apply, hm, hs, hw]

end Cert.KernelIdeal.Blocks

end
-- ==== Proof.Results.lean ====
/-
  The three results as functions of the arguments, for any rule that gives a row its scale and the scale's reciprocal. The
  kernel and the reference each compute them with a rule of their own; where the rules agree on every row, so do the results.
-/
module

public import proofs.«01_k».proof.Proof.Blocks

@[expose] public section

noncomputable section

open Idealize.ShloMosaic
open Idealize.ShloMosaic.ValueIdx

namespace Cert.Quant

/-- The activations' shape, also that of the codes. -/
abbrev SX : Shape := ⟨3, ![3, 1024, 27648]⟩
/-- The weights' shape. -/
abbrev SW : Shape := ⟨2, ![27648, 5120]⟩
/-- The shape of the weights' column scales. -/
abbrev SC : Shape := ⟨1, ![5120]⟩
/-- The product's shape. -/
abbrev SY : Shape := ⟨3, ![3, 1024, 5120]⟩
/-- The row scales' shape. -/
abbrev SS : Shape := ⟨3, ![3, 1024, 1]⟩

/-- Row `(b, s)` of the activations. -/
abbrev row3 (x : Vec Ideal SX .bf16) (b : Fin 3) (s : Fin 1024) : Fin 27648 → EReal := fun k => x (ix3 b s k)

/-- The codes, with `ri` giving a row's reciprocal scale. -/
def codes3 (ri : (Fin 27648 → EReal) → EReal) (x : Vec Ideal SX .bf16) : Vec Ideal SX .fp8e4m3 := fun i =>
  code (ri (row3 x (i 0) (i 1))) (x i)

/-- The row scales, with `rs` giving a row's scale. -/
def scales3 (rs : (Fin 27648 → EReal) → EReal) (x : Vec Ideal SX .bf16) : Vec Ideal SS .f32 := fun i =>
  rs (row3 x (i 0) (i 1))

/-- The row scales, at an index. -/
theorem scales3_apply (rs : (Fin 27648 → EReal) → EReal) (x : Vec Ideal SX .bf16) (b : Fin 3) (s : Fin 1024) (u : Fin 1) :
    scales3 rs x (ix3 b s u) = rs (row3 x b s) := rfl

/-- The codes, at an index. -/
theorem codes3_apply (ri : (Fin 27648 → EReal) → EReal) (x : Vec Ideal SX .bf16) (b : Fin 3) (s : Fin 1024) (k : Fin 27648) :
    codes3 ri x (ix3 b s k) = code (ri (row3 x b s)) (x (ix3 b s k)) := rfl

/-- The gelu of the codes' product with the weights, scaled by rows and columns. -/
def product3 (rs ri : (Fin 27648 → EReal) → EReal) (x : Vec Ideal SX .bf16) (w : Vec Ideal SW .fp8e4m3) (ws : Vec Ideal SC .f32) :
    Vec Ideal SY .bf16 := fun i =>
  gelu ((∑ k : Fin 27648, (codes3 ri x (ix3 (i 0) (i 1) k) * w (ix2 k (i 2)) : EReal)) * rs (row3 x (i 0) (i 1)) * ws (ix1 (i 2)))

/-- The product, at an index. -/
theorem product3_apply (rs ri : (Fin 27648 → EReal) → EReal) (x : Vec Ideal SX .bf16) (w : Vec Ideal SW .fp8e4m3) (ws : Vec Ideal SC .f32)
    (b : Fin 3) (s : Fin 1024) (n : Fin 5120) :
    product3 rs ri x w ws (ix3 b s n)
      = gelu ((∑ k : Fin 27648, (codes3 ri x (ix3 b s k) * w (ix2 k n) : EReal)) * rs (row3 x b s) * ws (ix1 n)) := rfl

/-- The kernel's scale of a row. -/
abbrev krs (f : Fin 27648 → EReal) : EReal := kscale (amax f) (tval f)
/-- The kernel's reciprocal scale of a row. -/
abbrev kri (f : Fin 27648 → EReal) : EReal := kinv (amax f) (tval f)
/-- The reference's scale of a row. -/
abbrev rrs (f : Fin 27648 → EReal) : EReal := rscale (tval f)
/-- The reference's reciprocal scale of a row. -/
abbrev rri (f : Fin 27648 → EReal) : EReal := rinv (tval f)

/-- Rules that agree on every row of the activations give the same codes. -/
theorem codes3_congr {ri ri' : (Fin 27648 → EReal) → EReal} {x : Vec Ideal SX .bf16}
    (h : ∀ b s, ri (row3 x b s) = ri' (row3 x b s)) : codes3 ri x = codes3 ri' x := by
  exact funext fun i => congrArg (code · (x i)) (h (i 0) (i 1))

/-- Rules that agree on every row of the activations give the same scales. -/
theorem scales3_congr {rs rs' : (Fin 27648 → EReal) → EReal} {x : Vec Ideal SX .bf16}
    (h : ∀ b s, rs (row3 x b s) = rs' (row3 x b s)) : scales3 rs x = scales3 rs' x := by
  exact funext fun i => h (i 0) (i 1)

/-- Rules that agree on every row of the activations give the same product. -/
theorem product3_congr {rs rs' ri ri' : (Fin 27648 → EReal) → EReal} {x : Vec Ideal SX .bf16}
    (w : Vec Ideal SW .fp8e4m3) (ws : Vec Ideal SC .f32)
    (hs : ∀ b s, rs (row3 x b s) = rs' (row3 x b s)) (hi : ∀ b s, ri (row3 x b s) = ri' (row3 x b s)) :
    product3 rs ri x w ws = product3 rs' ri' x w ws := by
  unfold product3
  rw [codes3_congr hi]
  exact funext fun i => congrArg (fun v : EReal =>
    gelu ((∑ k : Fin 27648, (codes3 ri' x (ix3 (i 0) (i 1) k) * w (ix2 k (i 2)) : EReal)) * v * ws (ix1 (i 2)))) (hs (i 0) (i 1))

end Cert.Quant

end
-- ==== Proof.Regions.lean ====
/-
  What the two launches of the idealized kernel leave in their arrays, whatever the arrays hold at entry: every grid point
  writes back its block of one function of whole arrays, and the blocks cover the array.
-/
module

public import proofs.«01_k».proof.Proof.Blocks
public import Idealize.ShloMosaic.Lib.Pipeline.ValueKit

@[expose] public section

set_option maxRecDepth 16384

noncomputable section

open Idealize.ShloMosaic hiding ix1 ix2 ix3 eq_ix2 eq_ix3
open Idealize.ShloMosaic.TcCoe Idealize.SL.Sem
open Idealize.ShloMosaic.Pipeline (Dat)
open Idealize.ShloMosaic.ValueIdx

namespace Cert.KernelIdeal.Regions

open Cert.KernelIdeal Cert.KernelIdeal.Gen Cert.Quant Cert.KernelIdeal.Blocks

/-! ## The whole-array functions -/

/-- Row `i` of the activations laid out as 3072 rows. -/
abbrev xrow (x : Vec Ideal S3072x27648 .bf16) (i : Fin 3072) : Fin 27648 → EReal := fun k => x (ix2 i k)

/-- The codes of all rows. -/
def codes (x : Vec Ideal S3072x27648 .bf16) : Vec Ideal S3072x27648 .fp8e4m3 := fun i =>
  code (kinv (amax (xrow x (i 0))) (tval (xrow x (i 0)))) (x i)

/-- The scales of all rows. -/
def scales (x : Vec Ideal S3072x27648 .bf16) : Vec Ideal S3072x1 .f32 := fun i =>
  kscale (amax (xrow x (i 0))) (tval (xrow x (i 0)))

/-- Row `8 p + a` of 3072. -/
abbrev flat (p : Fin 384) (a : Fin 8) : Fin 3072 := ⟨8 * p.val + a.val, by omega⟩

/-- The gelu of the scaled product, laid out as 384 groups of 8 rows. -/
def product (q : Vec Ideal S3072x27648 .fp8e4m3) (w : Vec Ideal S27648x5120 .fp8e4m3) (s : Vec Ideal S3072x1 .f32)
    (ws : Vec Ideal S1x5120 .f32) : Vec Ideal S384x8x5120 .bf16 := fun i =>
  gelu ((∑ k : Fin 27648, (q (ix2 (flat (i 0) (i 1)) k) * w (ix2 k (i 2)) : EReal)) * s (ix2 (flat (i 0) (i 1)) 0) * ws (ix2 0 (i 2)))

/-! ## Where the blocks lie -/

/-- The quantiser's windows at point `t` are the blocks of rows number `t`. -/
theorem idx0 : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N, _)

/-- The product's windows at point `t`: row block `t / 10`, column block `t % 10`. -/
theorem idx1 : ∀ t : Fin cfg1.N, (win1_0.index t (0 : Fin 2) = t.val / 10 ∧ win1_0.index t (1 : Fin 2) = 0)
    ∧ (win1_1.index t (0 : Fin 2) = 0 ∧ win1_1.index t (1 : Fin 2) = t.val % 10)
    ∧ (win1_2.index t (0 : Fin 2) = t.val / 10 ∧ win1_2.index t (1 : Fin 2) = 0)
    ∧ (win1_3.index t (0 : Fin 2) = 0 ∧ win1_3.index t (1 : Fin 2) = t.val % 10)
    ∧ (win1_4.index t (0 : Fin 3) = t.val / 10 ∧ win1_4.index t (1 : Fin 3) = 0 ∧ win1_4.index t (2 : Fin 3) = t.val % 10) :=
  (by decide +kernel : ∀ t : Fin grid1.N, _)

/-- The quantiser's launch has 48 points. -/
theorem lt0 (t : Fin cfg0.N) : t.val < 48 := lt_of_lt_of_eq t.isLt (by decide +kernel : grid0.N = 48)

/-- The product's launch has 60 points. -/
theorem lt1 (t : Fin cfg1.N) : t.val < 60 := lt_of_lt_of_eq t.isLt (by decide +kernel : grid1.N = 60)

/-- Row `i` of block `t` of 64 rows. -/
abbrev row0 (t : Fin cfg0.N) (i : Fin 64) : Fin 3072 := ⟨t.val * 64 + i.val, by have := lt0 t; omega⟩

/-- Row `r` of the block of 512 rows of point `t`. -/
abbrev row1 (t : Fin cfg1.N) (r : Fin 512) : Fin 3072 := ⟨t.val / 10 * 512 + r.val, by have := lt1 t; omega⟩

/-- Column `n` of the block of 512 columns of point `t`. -/
abbrev col1 (t : Fin cfg1.N) (n : Fin 512) : Fin 5120 := ⟨t.val % 10 * 512 + n.val, by omega⟩

/-- Group `p` of the block of 64 groups of 8 rows of point `t`. -/
abbrev grp1 (t : Fin cfg1.N) (p : Fin 64) : Fin 384 := ⟨t.val / 10 * 64 + p.val, by have := lt1 t; omega⟩

/-- The input block's place. -/
theorem emb0_0 (t : Fin cfg0.N) (i : Fin 64) (k : Fin 27648) : ((cfg0.win 0).blk t).view.emb (ix2 i k) = ix2 (row0 t i) k := by
  obtain ⟨⟨e0, e1⟩, -, -⟩ := idx0 t
  funext a; apply Fin.ext
  match a with
  | ⟨0, _⟩ => show win0_0.index t (0 : Fin 2) * 64 + 1 * i.val = t.val * 64 + i.val; omega
  | ⟨1, _⟩ => show win0_0.index t (1 : Fin 2) * 27648 + 1 * k.val = k.val; omega

/-- The code block's place. -/
theorem emb0_1 (t : Fin cfg0.N) (i : Fin 64) (k : Fin 27648) : ((cfg0.win 1).blk t).view.emb (ix2 i k) = ix2 (row0 t i) k := by
  obtain ⟨-, ⟨e0, e1⟩, -⟩ := idx0 t
  funext a; apply Fin.ext
  match a with
  | ⟨0, _⟩ => show win0_1.index t (0 : Fin 2) * 64 + 1 * i.val = t.val * 64 + i.val; omega
  | ⟨1, _⟩ => show win0_1.index t (1 : Fin 2) * 27648 + 1 * k.val = k.val; omega

/-- The scale block's place. -/
theorem emb0_2 (t : Fin cfg0.N) (i : Fin 64) (u : Fin 1) : ((cfg0.win 2).blk t).view.emb (ix2 i u) = ix2 (row0 t i) u := by
  obtain ⟨-, -, ⟨e0, e1⟩⟩ := idx0 t
  funext a; apply Fin.ext
  match a with
  | ⟨0, _⟩ => show win0_2.index t (0 : Fin 2) * 64 + 1 * i.val = t.val * 64 + i.val; omega
  | ⟨1, _⟩ => show win0_2.index t (1 : Fin 2) * 1 + 1 * u.val = u.val; omega

/-- The place of the block of codes in the product's launch. -/
theorem emb1_0 (t : Fin cfg1.N) (r : Fin 512) (k : Fin 27648) : ((cfg1.win 0).blk t).view.emb (ix2 r k) = ix2 (row1 t r) k := by
  obtain ⟨⟨e0, e1⟩, -⟩ := idx1 t
  funext a; apply Fin.ext
  match a with
  | ⟨0, _⟩ => show win1_0.index t (0 : Fin 2) * 512 + 1 * r.val = t.val / 10 * 512 + r.val; omega
  | ⟨1, _⟩ => show win1_0.index t (1 : Fin 2) * 27648 + 1 * k.val = k.val; omega

/-- The weight block's place. -/
theorem emb1_1 (t : Fin cfg1.N) (k : Fin 27648) (n : Fin 512) : ((cfg1.win 1).blk t).view.emb (ix2 k n) = ix2 k (col1 t n) := by
  obtain ⟨-, ⟨e0, e1⟩, -⟩ := idx1 t
  funext a; apply Fin.ext
  match a with
  | ⟨0, _⟩ => show win1_1.index t (0 : Fin 2) * 27648 + 1 * k.val = k.val; omega
  | ⟨1, _⟩ => show win1_1.index t (1 : Fin 2) * 512 + 1 * n.val = t.val % 10 * 512 + n.val; omega

/-- The place of the block of row scales. -/
theorem emb1_2 (t : Fin cfg1.N) (r : Fin 512) (u : Fin 1) : ((cfg1.win 2).blk t).view.emb (ix2 r u) = ix2 (row1 t r) u := by
  obtain ⟨-, -, ⟨e0, e1⟩, -⟩ := idx1 t
  funext a; apply Fin.ext
  match a with
  | ⟨0, _⟩ => show win1_2.index t (0 : Fin 2) * 512 + 1 * r.val = t.val / 10 * 512 + r.val; omega
  | ⟨1, _⟩ => show win1_2.index t (1 : Fin 2) * 1 + 1 * u.val = u.val; omega

/-- The place of the block of column scales. -/
theorem emb1_3 (t : Fin cfg1.N) (u : Fin 1) (n : Fin 512) : ((cfg1.win 3).blk t).view.emb (ix2 u n) = ix2 u (col1 t n) := by
  obtain ⟨-, -, -, ⟨e0, e1⟩, -⟩ := idx1 t
  funext a; apply Fin.ext
  match a with
  | ⟨0, _⟩ => show win1_3.index t (0 : Fin 2) * 1 + 1 * u.val = u.val; omega
  | ⟨1, _⟩ => show win1_3.index t (1 : Fin 2) * 512 + 1 * n.val = t.val % 10 * 512 + n.val; omega

/-- The result block's place. -/
theorem emb1_4 (t : Fin cfg1.N) (p : Fin 64) (a : Fin 8) (n : Fin 512) :
    ((cfg1.win 4).blk t).view.emb (ix3 p a n) = ix3 (grp1 t p) a (col1 t n) := by
  obtain ⟨-, -, -, -, ⟨e0, e1, e2⟩⟩ := idx1 t
  funext b; apply Fin.ext
  match b with
  | ⟨0, _⟩ => show win1_4.index t (0 : Fin 3) * 64 + 1 * p.val = t.val / 10 * 64 + p.val; omega
  | ⟨1, _⟩ => show win1_4.index t (1 : Fin 3) * 8 + 1 * a.val = a.val; omega
  | ⟨2, _⟩ => show win1_4.index t (2 : Fin 3) * 512 + 1 * n.val = t.val % 10 * 512 + n.val; omega

/-! ## The quantiser's arrays -/

variable (V : (c : Dev nD) → (b : Ref sig .tc) → Buf (Elt Ideal) ((c : Thread nD τ).loc b))

/-- The activations' block at point `t`, at an index. -/
theorem iblk0_0_apply (c : Dev nD) (t : Fin cfg0.N) (i : Fin 64) (k : Fin 27648) :
    iblk0 V c 0 t (ix2 i k) = V c main_v0 (ix2 (row0 t i) k) := by
  show V c main_v0 (((cfg0.win 0).blk t).view.emb (ix2 i k)) = _
  rw [emb0_0]

/-- A row of the block is a row of the array. -/
theorem row_iblk0 (c : Dev nD) (t : Fin cfg0.N) (i : Fin 64) : row (iblk0 V c 0 t) i = xrow (V c main_v0) (row0 t i) :=
  funext fun k => iblk0_0_apply V c t i k

/-- After the quantiser's launch the code array holds the codes of the activations. -/
theorem final_codes (c : Dev nD) : (dat0 V c).arrAt 1 cfg0.N = codes (V c main_v0) := by
  refine (dat0 V c).arrAt_eq_of_covers 1 _ (by decide +kernel) fun t hf y => ?_
  blk_simp
  rw [after0_1]
  obtain ⟨i, k, rfl⟩ : ∃ (i : Fin 64) (k : Fin 27648), y = ix2 i k := ⟨y 0, y 1, eq_ix2 y⟩
  refine (out_code _ i k).trans ?_
  rw [row_iblk0, iblk0_0_apply]
  refine Eq.trans ?_ (congrArg (codes (V c main_v0)) (emb0_1 t i k)).symm
  rfl

/-- After the quantiser's launch the scale array holds the scales of the activations. -/
theorem final_scales (c : Dev nD) : (dat0 V c).arrAt 2 cfg0.N = scales (V c main_v0) := by
  refine (dat0 V c).arrAt_eq_of_covers 2 _ (by decide +kernel) fun t hf y => ?_
  blk_simp
  rw [after0_2]
  obtain ⟨i, u, rfl⟩ : ∃ (i : Fin 64) (u : Fin 1), y = ix2 i u := ⟨y 0, y 1, eq_ix2 y⟩
  refine (out_scale _ i u).trans ?_
  rw [row_iblk0]
  refine Eq.trans ?_ (congrArg (scales (V c main_v0)) (emb0_2 t i u)).symm
  rfl

/-! ## The product's array -/

/-- The block of codes, at an index. -/
theorem iblk1_0_apply (c : Dev nD) (t : Fin cfg1.N) (r : Fin 512) (k : Fin 27648) :
    iblk1 V c 0 t (ix2 r k) = V c main_v1_0 (ix2 (row1 t r) k) := by
  show V c main_v1_0 (((cfg1.win 0).blk t).view.emb (ix2 r k)) = _
  rw [emb1_0]

/-- The block of weights, at an index. -/
theorem iblk1_1_apply (c : Dev nD) (t : Fin cfg1.N) (k : Fin 27648) (n : Fin 512) :
    iblk1 V c 1 t (ix2 k n) = V c main_arg1 (ix2 k (col1 t n)) := by
  show V c main_arg1 (((cfg1.win 1).blk t).view.emb (ix2 k n)) = _
  rw [emb1_1]

/-- The block of row scales, at an index. -/
theorem iblk1_2_apply (c : Dev nD) (t : Fin cfg1.N) (r : Fin 512) (u : Fin 1) :
    iblk1 V c 2 t (ix2 r u) = V c main_v1_1 (ix2 (row1 t r) u) := by
  show V c main_v1_1 (((cfg1.win 2).blk t).view.emb (ix2 r u)) = _
  rw [emb1_2]

/-- The block of column scales, at an index. -/
theorem iblk1_3_apply (c : Dev nD) (t : Fin cfg1.N) (u : Fin 1) (n : Fin 512) :
    iblk1 V c 3 t (ix2 u n) = V c main_v2 (ix2 u (col1 t n)) := by
  show V c main_v2 (((cfg1.win 3).blk t).view.emb (ix2 u n)) = _
  rw [emb1_3]

/-- After the product's launch its array holds the gelu of the scaled product of the arrays it reads. -/
theorem final_product (c : Dev nD) :
    (dat1 V c).arrAt 4 cfg1.N = product (V c main_v1_0) (V c main_arg1) (V c main_v1_1) (V c main_v2) := by
  refine (dat1 V c).arrAt_eq_of_covers 4 _ (by decide +kernel) fun t hf y => ?_
  blk_simp
  rw [after1_4]
  obtain ⟨p, a, n, rfl⟩ : ∃ (p : Fin 64) (a : Fin 8) (n : Fin 512), y = ix3 p a n := ⟨y 0, y 1, y 2, eq_ix3 y⟩
  have hr : 8 * p.val + a.val < 512 := by omega
  refine (out_gelu _ _ _ _ p a n ⟨8 * p.val + a.val, hr⟩ rfl).trans ?_
  simp only [iblk1_0_apply, iblk1_1_apply, iblk1_2_apply, iblk1_3_apply]
  refine Eq.trans ?_ (congrArg (product (V c main_v1_0) (V c main_arg1) (V c main_v1_1) (V c main_v2)) (emb1_4 t p a n)).symm
  have e : row1 t ⟨8 * p.val + a.val, hr⟩ = flat (grp1 t p) a := Fin.ext (by
    show t.val / 10 * 512 + (8 * p.val + a.val) = 8 * (t.val / 10 * 64 + p.val) + a.val
    omega)
  rw [e]
  rfl

end Cert.KernelIdeal.Regions

end
-- ==== Proof.RunAll.lean ====
/-
  The idealized kernel's run, stated with what every buffer holds at the end: the generated frame's launch over its
  segments, whose last state is read at every unscoped buffer instead of the arguments alone.
-/
module

public import proofs.«01_k».proof.Proof.Gen.KernelIdeal.Frame

@[expose] public section

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

-- the library theorem's implicit arguments are found by unifying its conclusion with this one, which takes unfolding
-- plain definitions in a metavariable's type
set_option backward.isDefEq.respectTransparency.types false in
/-- Every run terminates, and every final state has each unscoped buffer at the contents the generated fold through @main
    gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c => h c)

end Cert.KernelIdeal.RunAll

end
-- ==== Proof.Run.lean ====
/-
  The idealized kernel's three results as functions of its arguments: the buffers at the end of the run, read back through
  the reshapes and the two launches.
-/
module

public import proofs.«01_k».proof.Proof.Results
public import proofs.«01_k».proof.Proof.Regions
public import proofs.«01_k».proof.Proof.RunAll

@[expose] public section

set_option maxRecDepth 16384

noncomputable section

open Idealize.ShloMosaic hiding ix1 ix2 ix3 eq_ix2 eq_ix3
open Idealize.ShloMosaic.TcCoe Idealize.SL.Sem
open Idealize.ShloMosaic.ValueIdx

namespace Cert.KernelIdeal.Run

open Cert.KernelIdeal Cert.KernelIdeal.Gen Cert.Quant Cert.KernelIdeal.Regions

variable (m : (ℓ : Loc nD τ sig) → Buf (Elt Ideal) ℓ) (ρ : Dev nD → PrngReg)

/-- Row `1024 b + s` of 3072. -/
abbrev flat3 (b : Fin 3) (s : Fin 1024) : Fin 3072 := ⟨1024 * b.val + s.val, by omega⟩

/-! ## Reshapes at an index -/

/-- The activations as 3072 rows. -/
theorem cast_x (v : Vec Ideal S3x1024x27648 .bf16) (b : Fin 3) (s : Fin 1024) (k : Fin 27648) :
    shapeCast S3072x27648 v shapeCasts_S3x1024x27648_S3072x27648 (ix2 (flat3 b s) k) = v (ix3 b s k) :=
  shapeCast_apply v _ _ _ (by
    rw [Shape.rowMajor_val_three, Shape.rowMajor_val_two]
    show (b.val * 1024 + s.val) * 27648 + k.val = (1024 * b.val + s.val) * 27648 + k.val
    omega)

/-- The codes' 3072 rows as three batches. -/
theorem cast_codes (v : Vec Ideal S3072x27648 .fp8e4m3) (b : Fin 3) (s : Fin 1024) (k : Fin 27648) :
    shapeCast S3x1024x27648 v shapeCasts_S3072x27648_S3x1024x27648 (ix3 b s k) = v (ix2 (flat3 b s) k) :=
  shapeCast_apply v _ _ _ (by
    rw [Shape.rowMajor_val_three, Shape.rowMajor_val_two]
    show (1024 * b.val + s.val) * 27648 + k.val = (b.val * 1024 + s.val) * 27648 + k.val
    omega)

/-- The scales' 3072 rows as three batches. -/
theorem cast_scales (v : Vec Ideal S3072x1 .f32) (b : Fin 3) (s : Fin 1024) (u : Fin 1) :
    shapeCast S3x1024x1 v shapeCasts_S3072x1_S3x1024x1 (ix3 b s u) = v (ix2 (flat3 b s) u) :=
  shapeCast_apply v _ _ _ (by
    rw [Shape.rowMajor_val_three, Shape.rowMajor_val_two]
    show (1024 * b.val + s.val) * 1 + u.val = (b.val * 1024 + s.val) * 1 + u.val
    omega)

/-- The product's group of row `(b, s)`, of 8 rows each. -/
abbrev grp (b : Fin 3) (s : Fin 1024) : Fin 384 := ⟨(1024 * b.val + s.val) / 8, by omega⟩
/-- The place of row `(b, s)` in its group. -/
abbrev place (s : Fin 1024) : Fin 8 := ⟨s.val % 8, by omega⟩

/-- The product's 384 groups of 8 rows as three batches. -/
theorem cast_product (v : Vec Ideal S384x8x5120 .bf16) (b : Fin 3) (s : Fin 1024) (n : Fin 5120) :
    shapeCast S3x1024x5120 v shapeCasts_S384x8x5120_S3x1024x5120 (ix3 b s n) = v (ix3 (grp b s) (place s) n) :=
  shapeCast_apply v _ _ _ (by
    rw [Shape.rowMajor_val_three, Shape.rowMajor_val_three]
    show ((1024 * b.val + s.val) / 8 * 8 + s.val % 8) * 5120 + n.val = (b.val * 1024 + s.val) * 5120 + n.val
    omega)

/-- The column scales as one row. -/
theorem cast_ws (v : Vec Ideal S5120 .f32) (n : Fin 5120) :
    shapeCast S1x5120 v shapeCasts_S5120_S1x5120 (ix2 0 n) = v (ix1 n) :=
  shapeCast_apply v _ _ _ (by
    rw [Shape.rowMajor_val_two, Shape.rowMajor_val_one]
    show n.val = 0 * 5120 + n.val
    omega)

/-! ## The buffers along the run -/

/-- The activations as launched. -/
abbrev argx (c : Dev nD) : Vec Ideal S3x1024x27648 .bf16 := m ((c : Thread nD τ).loc main_arg0)
/-- The activations as 3072 rows. -/
abbrev x2 (c : Dev nD) : Vec Ideal S3072x27648 .bf16 := shapeCast S3072x27648 (argx m c) shapeCasts_S3x1024x27648_S3072x27648
/-- The weights as launched. -/
abbrev argw (c : Dev nD) : Vec Ideal S27648x5120 .fp8e4m3 := m ((c : Thread nD τ).loc main_arg1)
/-- The column scales as launched. -/
abbrev argws (c : Dev nD) : Vec Ideal S5120 .f32 := m ((c : Thread nD τ).loc main_arg2)

/-- The quantiser's launch finds the activations as 3072 rows. -/
theorem V1_v0 (c : Dev nD) : V1 m ρ c main_v0 = x2 m c := by
  show StableHlo.after hostOps0 (W0 m ρ c) (Proc.devRef .tc main_v0) = _
  after_results
  rfl

/-- The product's launch finds the codes. -/
theorem V3_codes (c : Dev nD) : V3 m ρ c main_v1_0 = codes (x2 m c) := by
  refine (W3_of m ρ c main_v1_0 (by decide)).trans ((W2_arr m ρ c 1).trans ((final_codes (V1 m ρ) c).trans ?_))
  rw [V1_v0]

/-- The product's launch finds the row scales. -/
theorem V3_scales (c : Dev nD) : V3 m ρ c main_v1_1 = scales (x2 m c) := by
  refine (W3_of m ρ c main_v1_1 (by decide)).trans ((W2_arr m ρ c 2).trans ((final_scales (V1 m ρ) c).trans ?_))
  rw [V1_v0]

/-- The product's launch finds the weights as launched. -/
theorem V3_w (c : Dev nD) : V3 m ρ c main_arg1 = argw m c := W3_args m ρ c main_arg1 (by decide)

/-- The product's launch finds the column scales as one row. -/
theorem V3_ws (c : Dev nD) : V3 m ρ c main_v2 = shapeCast S1x5120 (argws m c) shapeCasts_S5120_S1x5120 := by
  show StableHlo.after hostOps1 (W2 m ρ c) (Proc.devRef .tc main_v2) = _
  after_results
  rw [W2_args m ρ c main_arg2 (by decide)]
  rfl

/-- After the product's launch its array holds the product of what the quantiser left. -/
theorem W4_v3 (c : Dev nD) : W4 m ρ c (Proc.devRef .tc main_v3)
    = product (codes (x2 m c)) (argw m c) (scales (x2 m c)) (shapeCast S1x5120 (argws m c) shapeCasts_S5120_S1x5120) := by
  refine (W4_arr m ρ c 4).trans ((final_product (V3 m ρ) c).trans ?_)
  rw [V3_codes, V3_scales, V3_w, V3_ws]

/-- The codes are unchanged by the product's launch. -/
theorem W4_v1_0 (c : Dev nD) : W4 m ρ c (Proc.devRef .tc main_v1_0) = codes (x2 m c) :=
  (W4_of m ρ c main_v1_0 (by decide)).trans (V3_codes m ρ c)

/-- The row scales are unchanged by the product's launch. -/
theorem W4_v1_1 (c : Dev nD) : W4 m ρ c (Proc.devRef .tc main_v1_1) = scales (x2 m c) :=
  (W4_of m ρ c main_v1_1 (by decide)).trans (V3_scales m ρ c)

/-- The product's result is the reshape of the product's array. -/
theorem W5_v4 (c : Dev nD) : W5 m ρ c (Proc.devRef .tc main_v4)
    = shapeCast S3x1024x5120 (W4 m ρ c (Proc.devRef .tc main_v3)) shapeCasts_S384x8x5120_S3x1024x5120 := by
  show StableHlo.after hostOps2 (W4 m ρ c) (Proc.devRef .tc main_v4) = _
  after_results
  rfl

/-- The code result is the reshape of the code array. -/
theorem W5_v5 (c : Dev nD) : W5 m ρ c (Proc.devRef .tc main_v5)
    = shapeCast S3x1024x27648 (W4 m ρ c (Proc.devRef .tc main_v1_0)) shapeCasts_S3072x27648_S3x1024x27648 := by
  show StableHlo.after hostOps2 (W4 m ρ c) (Proc.devRef .tc main_v5) = _
  after_results
  rfl

/-- The scale result is the reshape of the scale array. -/
theorem W5_v6 (c : Dev nD) : W5 m ρ c (Proc.devRef .tc main_v6)
    = shapeCast S3x1024x1 (W4 m ρ c (Proc.devRef .tc main_v1_1)) shapeCasts_S3072x1_S3x1024x1 := by
  show StableHlo.after hostOps2 (W4 m ρ c) (Proc.devRef .tc main_v6) = _
  after_results
  rfl

/-! ## The results at an index -/

/-- Row `1024 b + s` of the reshaped activations is row `(b, s)`. -/
theorem xrow_eq (x : Vec Ideal S3x1024x27648 .bf16) (b : Fin 3) (s : Fin 1024) :
    xrow (shapeCast S3072x27648 x shapeCasts_S3x1024x27648_S3072x27648) (flat3 b s) = row3 x b s :=
  funext fun k => cast_x x b s k

/-- The codes of the 3072 rows, at an index. -/
theorem codes_apply (v : Vec Ideal S3072x27648 .bf16) (i : Fin 3072) (k : Fin 27648) :
    codes v (ix2 i k) = code (kri (xrow v i)) (v (ix2 i k)) := rfl

/-- The scales of the 3072 rows, at an index. -/
theorem scales_apply (v : Vec Ideal S3072x27648 .bf16) (i : Fin 3072) (u : Fin 1) :
    scales v (ix2 i u) = krs (xrow v i) := rfl

/-- The product's array, at an index. -/
theorem product_apply (q : Vec Ideal S3072x27648 .fp8e4m3) (w : Vec Ideal S27648x5120 .fp8e4m3) (s : Vec Ideal S3072x1 .f32)
    (ws : Vec Ideal S1x5120 .f32) (p : Fin 384) (a : Fin 8) (n : Fin 5120) :
    product q w s ws (ix3 p a n)
      = gelu ((∑ k : Fin 27648, (q (ix2 (flat p a) k) * w (ix2 k n) : EReal)) * s (ix2 (flat p a) 0) * ws (ix2 0 n)) := rfl

/-- The codes of the reshaped activations, at row `(b, s)`. -/
theorem codes_row (x : Vec Ideal S3x1024x27648 .bf16) (b : Fin 3) (s : Fin 1024) (k : Fin 27648) :
    codes (shapeCast S3072x27648 x shapeCasts_S3x1024x27648_S3072x27648) (ix2 (flat3 b s) k) = codes3 kri x (ix3 b s k) := by
  refine (codes_apply _ _ _).trans ?_
  rw [xrow_eq, cast_x]
  exact (codes3_apply kri x b s k).symm

/-- The scales of the reshaped activations, at row `(b, s)`. -/
theorem scales_row (x : Vec Ideal S3x1024x27648 .bf16) (b : Fin 3) (s : Fin 1024) (u : Fin 1) :
    scales (shapeCast S3072x27648 x shapeCasts_S3x1024x27648_S3072x27648) (ix2 (flat3 b s) u) = krs (row3 x b s) := by
  refine (scales_apply _ _ _).trans ?_
  rw [xrow_eq]

/-- The code result. -/
theorem final_v5 (c : Dev nD) : W5 m ρ c (Proc.devRef .tc main_v5) = codes3 kri (argx m c) := by
  refine (W5_v5 m ρ c).trans ?_
  rw [W4_v1_0]
  funext i
  obtain ⟨b, s, k, rfl⟩ : ∃ (b : Fin 3) (s : Fin 1024) (k : Fin 27648), i = ix3 b s k := ⟨i 0, i 1, i 2, eq_ix3 i⟩
  exact (cast_codes _ b s k).trans (codes_row (argx m c) b s k)

/-- The scale result. -/
theorem final_v6 (c : Dev nD) : W5 m ρ c (Proc.devRef .tc main_v6) = scales3 krs (argx m c) := by
  refine (W5_v6 m ρ c).trans ?_
  rw [W4_v1_1]
  funext i
  obtain ⟨b, s, u, rfl⟩ : ∃ (b : Fin 3) (s : Fin 1024) (u : Fin 1), i = ix3 b s u := ⟨i 0, i 1, i 2, eq_ix3 i⟩
  exact (cast_scales _ b s u).trans ((scales_row (argx m c) b s u).trans (scales3_apply krs (argx m c) b s u).symm)

/-- The reshaped product of the quantiser's arrays is the product of the rows. -/
theorem product_row (x : Vec Ideal S3x1024x27648 .bf16) (w : Vec Ideal S27648x5120 .fp8e4m3) (ws : Vec Ideal S5120 .f32)
    (b : Fin 3) (s : Fin 1024) (n : Fin 5120) :
    product (codes (shapeCast S3072x27648 x shapeCasts_S3x1024x27648_S3072x27648)) w
      (scales (shapeCast S3072x27648 x shapeCasts_S3x1024x27648_S3072x27648))
      (shapeCast S1x5120 ws shapeCasts_S5120_S1x5120) (ix3 (grp b s) (place s) n) = product3 krs kri x w ws (ix3 b s n) := by
  refine (product_apply _ _ _ _ _ _ _).trans ?_
  have e : flat (grp b s) (place s) = flat3 b s := Fin.ext (by
    show 8 * ((1024 * b.val + s.val) / 8) + s.val % 8 = 1024 * b.val + s.val
    omega)
  rw [e, scales_row, cast_ws]
  refine (congrArg (fun v : EReal => gelu (v * krs (row3 x b s) * ws (ix1 n)))
    (Finset.sum_congr rfl fun k _ => congrArg (· * (w (ix2 k n) : EReal)) (codes_row x b s k))).trans ?_
  exact (product3_apply krs kri x w ws b s n).symm

/-- The product's result. -/
theorem final_v4 (c : Dev nD) : W5 m ρ c (Proc.devRef .tc main_v4) = product3 krs kri (argx m c) (argw m c) (argws m c) := by
  refine (W5_v4 m ρ c).trans ?_
  rw [W4_v3]
  funext i
  obtain ⟨b, s, n, rfl⟩ : ∃ (b : Fin 3) (s : Fin 1024) (n : Fin 5120), i = ix3 b s n := ⟨i 0, i 1, i 2, eq_ix3 i⟩
  exact (cast_product _ b s n).trans (product_row (argx m c) (argw m c) (argws m c) b s n)

/-- Every run of the kernel ends with the three results at their functions of the arguments, the arguments unchanged. -/
theorem run : θ_run defs (onTc (τ := τ) (main (F := Ideal))) ⟨m, fun _ => 0, ρ⟩ fun r => ∀ c : Dev nD,
      r.2.mem ((c.tc : Thread nD τ).loc main_v4) = product3 krs kri (argx m c) (argw m c) (argws m c)
      ∧ r.2.mem ((c.tc : Thread nD τ).loc main_v5) = codes3 kri (argx m c)
      ∧ r.2.mem ((c.tc : Thread nD τ).loc main_v6) = scales3 krs (argx m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (RunAll.run_all m ρ)
  exact ⟨(h c _ (mem_uc main_v4 (by decide))).trans (final_v4 m ρ c),
    (h c _ (mem_uc main_v5 (by decide))).trans (final_v5 m ρ c),
    (h c _ (mem_uc main_v6 (by decide))).trans (final_v6 m ρ c),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c)⟩

end Cert.KernelIdeal.Run

end
-- ==== Proof.RefValue.lean ====
/-
  The three arrays the idealized reference leaves, as functions of its arguments, and its run stated with them.
-/
module

public import proofs.«01_k».proof.Proof.Results
public import proofs.«01_k».proof.Proof.Gen.ReferenceIdeal.Frame
public import Idealize.ShloMosaic.Lib.Pipeline.ValueKit

@[expose] public section

set_option maxRecDepth 16384

noncomputable section

open Idealize.ShloMosaic hiding ix1 ix2 ix3 eq_ix2 eq_ix3
open Idealize.ShloMosaic.TcCoe Idealize.SL.Sem
open Idealize.ShloMosaic.Pipeline (Dat)
open Idealize.ShloMosaic.ValueIdx

namespace Cert.ReferenceIdeal.RefValue

open Cert.ReferenceIdeal Cert.ReferenceIdeal.Gen Cert.Quant
open Cert.KernelIdeal.Blocks (hz3 hz2 max_abs_apply mul_splat_apply clip_apply gelu_apply mul3_apply trunc_apply)

variable (m : (ℓ : Loc nD τ sig) → Buf (Elt Ideal) ℓ) (ρ : Dev nD → PrngReg)

/-- The zero offset of a rank-1 access. -/
theorem hz1 : (![0] : Fin 1 → Nat) = fun _ => 0 := funext fun a => by fin_cases a; rfl

/-! ## Vector expressions at an index, at any shape and constants -/

/-- The reference's exponent of a vector, at an index. -/
theorem rexp_apply {s : Shape} (t : FVec Ideal s .f32) (two one tiny zero : BitVec 32) (j : s.Idx) :
    select (cmpf .olt t (broadcast s (FloatOps.ofBits (F := Ideal) .f32 tiny))) (broadcast s (FloatOps.ofBits (F := Ideal) .f32 zero))
      (addf (floor (divf (log t) (broadcast s (Scalar.log (FloatOps.ofBits (F := Ideal) .f32 two)))))
        (broadcast s (FloatOps.ofBits (F := Ideal) .f32 one))) j
      = Scalar.select (Ideal.cmp .olt (t j) (Ideal.ofBits .f32 tiny)) (Ideal.ofBits .f32 zero)
          ((Ideal.liftRound Int.floor (Ideal.div (Ideal.log (t j)) (Ideal.log (Ideal.ofBits .f32 two)))
            + Ideal.ofBits .f32 one : EReal)) := rfl

/-- Two to a vector, at an index. -/
theorem exp2_apply {s : Shape} (e : FVec Ideal s .f32) (j : s.Idx) : exp2 e j = Ideal.exp2 (e j) := rfl

/-- Two to a splat constant less a vector, at an index. -/
theorem exp2_sub_apply {s : Shape} (e : FVec Ideal s .f32) (c : BitVec 32) (j : s.Idx) :
    exp2 (subf (broadcast s (FloatOps.ofBits (F := Ideal) .f32 c)) e) j = Ideal.exp2 ((Ideal.ofBits .f32 c - e j : EReal)) := rfl

/-! ## The payloads at an index -/

/-- The row maximum times the constant, at row `(b, s)`. -/
theorem t_apply (x : Vec Ideal S3x1024x27648 .bf16) (b : Fin 3) (s : Fin 1024) (u : Fin 1) (c : BitVec 32)
    (hc : c = 0x3B124925#32) :
    mulf (shapeCast S3x1024x1 (multiReduction .maximumf [2] S3x1024 (absf (extf .f32 x bitsLt_bf16_f32)) 0xFF800000#32
        reduces_S3x1024x27648_S3x1024 (.inl rfl) rfl) shapeCasts_S3x1024_S3x1024x1)
      (broadcast S3x1024x1 (FloatOps.ofBits (F := Ideal) .f32 c)) (ix3 b s u) = tval (row3 x b s) := by
  refine (mul_splat_apply _ _ _).trans ?_
  rw [shapeCast_apply _ shapeCasts_S3x1024_S3x1024x1 (ix3 b s u) (ix2 b s) (by
    rw [Shape.rowMajor_val_three, Shape.rowMajor_val_two]
    show b.val * 1024 + s.val = (b.val * 1024 + s.val) * 1 + u.val
    omega)]
  rw [hc]
  unfold tval amax
  refine congrArg (· * Ideal.ofBits .f32 0x3B124925#32) ((max_abs_apply x _ _ _ _ _ _).trans ?_)
  have e : ∀ k : Fin 27648, reduces_S3x1024x27648_S3x1024.lift (ix2 b s) k = ix3 b s k := fun k => by
    funext a
    apply Fin.ext
    match a with
    | ⟨0, _⟩ => rfl
    | ⟨1, _⟩ => rfl
    | ⟨2, _⟩ => rfl
  exact congrArg (Finset.fold max _ · Finset.univ) (funext fun k =>
    congrArg (fun v : S3x1024x27648.Idx => (max (x v : EReal) (-(x v)))) (e k))

/-- The reference's exponent, at row `(b, s)`. -/
theorem pay3_apply (x : Vec Ideal S3x1024x27648 .bf16) (b : Fin 3) (s : Fin 1024) (u : Fin 1) :
    k0_pay3 x (ix3 b s u) = rexp (tval (row3 x b s)) := by
  unfold k0_pay3 k0_pay2
  refine (rexp_apply _ _ _ _ _ _).trans ?_
  rw [← t_apply x b s u _ rfl]
  unfold rexp
  rfl

/-- The reference's scale, at row `(b, s)`. -/
theorem pay4_apply (x : Vec Ideal S3x1024x27648 .bf16) (b : Fin 3) (s : Fin 1024) (u : Fin 1) :
    k0_pay4 x (ix3 b s u) = rrs (row3 x b s) := by
  unfold k0_pay4 rrs rscale
  rw [← pay3_apply x b s u]
  exact exp2_apply _ _

/-- The reference's codes, at an index. -/
theorem pay5_apply (x : Vec Ideal S3x1024x27648 .bf16) (b : Fin 3) (s : Fin 1024) (k : Fin 27648) :
    k0_pay5 x (ix3 b s k) = codes3 rri x (ix3 b s k) := by
  have hb : ∀ v : FVec Ideal S3x1024x1 .f32, broadcastTo S3x1024x27648 v broadcasts_S3x1024x1_S3x1024x27648 (ix3 b s k) = v (ix3 b s 0) :=
    fun v => broadcastTo_apply v _ _ _ fun a => by
      match a with
      | ⟨0, _⟩ => rfl
      | ⟨1, _⟩ => rfl
      | ⟨2, _⟩ => rfl
  unfold k0_pay5 k0_pay2
  refine (clip_apply _ _ _ _ _ _).trans ?_
  rw [hb]
  have hi := exp2_sub_apply (k0_pay3 x) 0x00000000#32 (ix3 b s 0)
  rw [pay3_apply] at hi
  unfold codes3 code rri rinv
  exact congrArg (fun v : EReal => min (Ideal.ofBits .f32 0x43E00000#32) (max (Ideal.ofBits .f32 0xC3E00000#32) (x (ix3 b s k) * v))) hi

/-- The contraction index of the reference's product as its one coordinate. -/
def contr3 : (dot_S3x1024x27648_S27648x5120_S3x1024x5120_2_0_01_1_n_n).contr.Idx ≃ Fin 27648 :=
  contrEquiv1 _ 27648 rfl rfl

/-- The reference's product, at an index. -/
theorem matmul3_apply (q : Vec Ideal S3x1024x27648 .fp8e4m3) (w : Vec Ideal S27648x5120 .fp8e4m3) (b : Fin 3) (s : Fin 1024)
    (n : Fin 5120) :
    matmul (F := Ideal) (φ₁ := .fp8e4m3) (φ₂ := .fp8e4m3) dot_S3x1024x27648_S27648x5120_S3x1024x5120_2_0_01_1_n_n none q w
      (constant S3x1024x5120 .f32 0x00000000#32) (ix3 b s n) = ∑ k : Fin 27648, (q (ix3 b s k) * w (ix2 k n) : EReal) := by
  refine (Ideal.matmul_apply _ _ _ _ _ _).trans ?_
  rw [← Equiv.sum_comp contr3.symm]
  have hz : (constant (F := Ideal) S3x1024x5120 .f32 0x00000000#32 (ix3 b s n) : EReal) = 0 := Ideal.ofBits_zero_f32
  refine (congrArg (· + _) hz).trans ((zero_add _).trans (Finset.sum_congr rfl fun k _ => ?_))
  have hk := contrEquiv1_symm_val dot_S3x1024x27648_S27648x5120_S3x1024x5120_2_0_01_1_n_n 27648 rfl rfl k
  have el : (dot_S3x1024x27648_S27648x5120_S3x1024x5120_2_0_01_1_n_n).lhsIdx (ix3 b s n) (contr3.symm k) = ix3 b s k := by
    funext a; apply Fin.ext
    match a with
    | ⟨0, _⟩ => rfl
    | ⟨1, _⟩ => rfl
    | ⟨2, _⟩ => exact hk
  have er : (dot_S3x1024x27648_S27648x5120_S3x1024x5120_2_0_01_1_n_n).rhsIdx (ix3 b s n) (contr3.symm k) = ix2 k n := by
    funext a; apply Fin.ext
    match a with
    | ⟨0, _⟩ => exact hk
    | ⟨1, _⟩ => rfl
  rw [el, er]

/-- The reference's scaled product, at an index. -/
theorem pay6_apply (x : Vec Ideal S3x1024x27648 .bf16) (w : Vec Ideal S27648x5120 .fp8e4m3) (ws : Vec Ideal S5120 .f32)
    (b : Fin 3) (s : Fin 1024) (n : Fin 5120) :
    k0_pay6 x w ws (ix3 b s n)
      = (∑ k : Fin 27648, (codes3 rri x (ix3 b s k) * w (ix2 k n) : EReal)) * rrs (row3 x b s) * ws (ix1 n) := by
  have hs : ∀ v : FVec Ideal S3x1024x1 .f32, broadcastTo S3x1024x5120 v broadcasts_S3x1024x1_S3x1024x5120 (ix3 b s n) = v (ix3 b s 0) :=
    fun v => broadcastTo_apply v _ _ _ fun a => by
      match a with
      | ⟨0, _⟩ => rfl
      | ⟨1, _⟩ => rfl
      | ⟨2, _⟩ => rfl
  have hw : ∀ v : FVec Ideal S1x1x5120 .f32, broadcastTo S3x1024x5120 v broadcasts_S1x1x5120_S3x1024x5120 (ix3 b s n) = v (ix3 0 0 n) :=
    fun v => broadcastTo_apply v _ _ _ fun a => by
      match a with
      | ⟨0, _⟩ => rfl
      | ⟨1, _⟩ => rfl
      | ⟨2, _⟩ => rfl
  have hc : shapeCast S1x1x5120 ws shapeCasts_S5120_S1x1x5120 (ix3 0 0 n) = ws (ix1 n) :=
    shapeCast_apply ws _ _ _ (by
      rw [Shape.rowMajor_val_three, Shape.rowMajor_val_one]
      show n.val = (0 * 1 + 0) * 5120 + n.val
      omega)
  unfold k0_pay6
  refine (mul3_apply _ _ _ _).trans ?_
  rw [matmul3_apply, hs, hw, hc, pay4_apply]
  simp only [pay5_apply]

/-- The reference's stored product, at an index, from its scaled product there. -/
theorem pay1_apply (x : Vec Ideal S3x1024x27648 .bf16) (w : Vec Ideal S27648x5120 .fp8e4m3) (ws : Vec Ideal S5120 .f32)
    (j : S3x1024x5120.Idx) (c : BitVec 32) (hc : c = 0x3F4C422A#32) :
    k0_pay1 (k0_pay6 x w ws) (k0_pay7 x w ws) (Scalar.ofBits .f32 c) j = gelu (k0_pay6 x w ws j) := by
  unfold k0_pay1 k0_pay7
  rw [hc]
  generalize k0_pay6 x w ws = z
  refine (trunc_apply _ _ _).trans ((gelu_apply _ _ _ _ _ _).trans ?_)
  unfold gelu
  rfl

/-! ## The result arrays -/

/-- The code buffer after the body. -/
theorem out_codes (x : Vec Ideal S3x1024x27648 .bf16) (w : Vec Ideal S27648x5120 .fp8e4m3) (ws : Vec Ideal S5120 .f32) :
    out0_4 x w ws = codes3 rri x := by
  unfold out0_4
  rw [View.canon_unit_zero hz3, View.ld_unit_zero hz3]
  funext i
  obtain ⟨b, s, k, rfl⟩ : ∃ (b : Fin 3) (s : Fin 1024) (k : Fin 27648), i = ix3 b s k := ⟨i 0, i 1, i 2, eq_ix3 i⟩
  exact pay5_apply x b s k

/-- The scale buffer after the body. -/
theorem out_scales (x : Vec Ideal S3x1024x27648 .bf16) (w : Vec Ideal S27648x5120 .fp8e4m3) (ws : Vec Ideal S5120 .f32) :
    out0_5 x w ws = scales3 rrs x := by
  unfold out0_5
  rw [View.canon_unit_zero hz3, View.ld_unit_zero hz3]
  funext i
  obtain ⟨b, s, u, rfl⟩ : ∃ (b : Fin 3) (s : Fin 1024) (u : Fin 1), i = ix3 b s u := ⟨i 0, i 1, i 2, eq_ix3 i⟩
  exact (pay4_apply x b s u).trans (scales3_apply rrs x b s u).symm

/-- The product's buffer after the body. -/
theorem out_product (x : Vec Ideal S3x1024x27648 .bf16) (w : Vec Ideal S27648x5120 .fp8e4m3) (ws : Vec Ideal S5120 .f32) :
    out0_3 x w ws = product3 rrs rri x w ws := by
  unfold out0_3
  rw [View.canon_unit_zero hz3, View.ld_unit_zero hz3, View.ld_unit_zero hz2, View.ld_unit_zero hz1]
  funext i
  obtain ⟨b, s, n, rfl⟩ : ∃ (b : Fin 3) (s : Fin 1024) (n : Fin 5120), i = ix3 b s n := ⟨i 0, i 1, i 2, eq_ix3 i⟩
  refine (pay1_apply x w ws _ _ rfl).trans ?_
  rw [pay6_apply]
  rfl

/-- Each window's block is its whole array. -/
theorem emb0 (t : Fin cfg0.N) (j : S3x1024x27648.Idx) : ((cfg0.win 0).blk t).view.emb j = j := by
  funext a; apply Fin.ext
  match a with
  | ⟨0, _⟩ => show 0 * 3 + 1 * (j 0).val = (j 0).val; omega
  | ⟨1, _⟩ => show 0 * 1024 + 1 * (j 1).val = (j 1).val; omega
  | ⟨2, _⟩ => show 0 * 27648 + 1 * (j 2).val = (j 2).val; omega

/-- Each window's block is its whole array. -/
theorem emb1 (t : Fin cfg0.N) (j : S27648x5120.Idx) : ((cfg0.win 1).blk t).view.emb j = j := by
  funext a; apply Fin.ext
  match a with
  | ⟨0, _⟩ => show 0 * 27648 + 1 * (j 0).val = (j 0).val; omega
  | ⟨1, _⟩ => show 0 * 5120 + 1 * (j 1).val = (j 1).val; omega

/-- Each window's block is its whole array. -/
theorem emb2 (t : Fin cfg0.N) (j : S5120.Idx) : ((cfg0.win 2).blk t).view.emb j = j := by
  funext a; apply Fin.ext
  match a with
  | ⟨0, _⟩ => show 0 * 5120 + 1 * (j 0).val = (j 0).val; omega

/-- Each window's block is its whole array. -/
theorem emb3 (t : Fin cfg0.N) (j : S3x1024x5120.Idx) : ((cfg0.win 3).blk t).view.emb j = j := by
  funext a; apply Fin.ext
  match a with
  | ⟨0, _⟩ => show 0 * 3 + 1 * (j 0).val = (j 0).val; omega
  | ⟨1, _⟩ => show 0 * 1024 + 1 * (j 1).val = (j 1).val; omega
  | ⟨2, _⟩ => show 0 * 5120 + 1 * (j 2).val = (j 2).val; omega

/-- Each window's block is its whole array. -/
theorem emb4 (t : Fin cfg0.N) (j : S3x1024x27648.Idx) : ((cfg0.win 4).blk t).view.emb j = j := by
  funext a; apply Fin.ext
  match a with
  | ⟨0, _⟩ => show 0 * 3 + 1 * (j 0).val = (j 0).val; omega
  | ⟨1, _⟩ => show 0 * 1024 + 1 * (j 1).val = (j 1).val; omega
  | ⟨2, _⟩ => show 0 * 27648 + 1 * (j 2).val = (j 2).val; omega

/-- Each window's block is its whole array. -/
theorem emb5 (t : Fin cfg0.N) (j : S3x1024x1.Idx) : ((cfg0.win 5).blk t).view.emb j = j := by
  funext a; apply Fin.ext
  match a with
  | ⟨0, _⟩ => show 0 * 3 + 1 * (j 0).val = (j 0).val; omega
  | ⟨1, _⟩ => show 0 * 1024 + 1 * (j 1).val = (j 1).val; omega
  | ⟨2, _⟩ => show 0 * 1 + 1 * (j 2).val = (j 2).val; omega

/-- The activations' block is the array as launched. -/
theorem iblk0_eq (c : Dev nD) (t : Fin cfg0.N) : iblk m c 0 t = m ((c : Thread nD τ).loc main_arg0) := by
  funext j; show V m c main_arg0 (((cfg0.win 0).blk t).view.emb j) = V m c main_arg0 j; rw [emb0]

/-- The weights' block is the array as launched. -/
theorem iblk1_eq (c : Dev nD) (t : Fin cfg0.N) : iblk m c 1 t = m ((c : Thread nD τ).loc main_arg1) := by
  funext j; show V m c main_arg1 (((cfg0.win 1).blk t).view.emb j) = V m c main_arg1 j; rw [emb1]

/-- The column scales' block is the array as launched. -/
theorem iblk2_eq (c : Dev nD) (t : Fin cfg0.N) : iblk m c 2 t = m ((c : Thread nD τ).loc main_arg2) := by
  funext j; show V m c main_arg2 (((cfg0.win 2).blk t).view.emb j) = V m c main_arg2 j; rw [emb2]

/-- The product's array after the run. -/
theorem final_product (c : Dev nD) : (dats m 0 c).arrAt 3 cfg0.N
    = product3 rrs rri (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_product, iblk0_eq, iblk1_eq, iblk2_eq]
  exact congrArg (product3 rrs rri (m ((c : Thread nD τ).loc main_arg0)) (m ((c : Thread nD τ).loc main_arg1)) (m ((c : Thread nD τ).loc main_arg2)))
    (emb3 t y).symm

/-- The code array after the run. -/
theorem final_codes (c : Dev nD) : (dats m 0 c).arrAt 4 cfg0.N = codes3 rri (m ((c : Thread nD τ).loc main_arg0)) := by
  refine (dats m 0 c).arrAt_eq_of_covers 4 _ (by decide +kernel) fun t hf y => ?_
  blk_simp
  rw [after0_4, out_codes, iblk0_eq]
  exact congrArg (codes3 rri (m ((c : Thread nD τ).loc main_arg0))) (emb4 t y).symm

/-- The scale array after the run. -/
theorem final_scales (c : Dev nD) : (dats m 0 c).arrAt 5 cfg0.N = scales3 rrs (m ((c : Thread nD τ).loc main_arg0)) := by
  refine (dats m 0 c).arrAt_eq_of_covers 5 _ (by decide +kernel) fun t hf y => ?_
  blk_simp
  rw [after0_5, out_scales, iblk0_eq]
  exact congrArg (scales3 rrs (m ((c : Thread nD τ).loc main_arg0))) (emb5 t y).symm

/-- Every run of the reference ends with the three results at their functions of the arguments, the arguments unchanged. -/
theorem run : θ_run defs (onTc (τ := τ) (main (F := Ideal))) ⟨m, fun _ => 0, ρ⟩ fun r => ∀ c : Dev nD,
      r.2.mem ((c.tc : Thread nD τ).loc main_v0_0)
        = product3 rrs rri (m ((c.tc : Thread nD τ).loc main_arg0)) (m ((c.tc : Thread nD τ).loc main_arg1)) (m ((c.tc : Thread nD τ).loc main_arg2))
      ∧ r.2.mem ((c.tc : Thread nD τ).loc main_v0_1) = codes3 rri (m ((c.tc : Thread nD τ).loc main_arg0))
      ∧ r.2.mem ((c.tc : Thread nD τ).loc main_v0_2) = scales3 rrs (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (θ_run_and (run_main m ρ) (unchanged m ρ))
  exact ⟨((h.1 c).1 3).trans (final_product m c), ((h.1 c).1 4).trans (final_codes m c),
    ((h.1 c).1 5).trans (final_scales m c), h.2 c⟩

end Cert.ReferenceIdeal.RefValue

end
-- ==== Proof.Equal.lean ====
/-
  Under the precondition every row of the activations has a finite greatest magnitude, so the kernel's scale and reciprocal
  are the reference's on every row, and with them the three results.
-/
module

public import proofs.«01_k».proof.Defs
public import proofs.«01_k».proof.Proof.Run
public import proofs.«01_k».proof.Proof.RefValue
public import proofs.«01_k».proof.Proof.Gen.Pre_finite_x

@[expose] public section

set_option maxRecDepth 16384

noncomputable section

open Idealize.ShloMosaic hiding ix1 ix2 ix3 eq_ix2 eq_ix3
open Idealize.ShloMosaic.TcCoe Idealize.SL.Sem
open Idealize.ShloMosaic.ValueIdx

namespace Cert.Equal

open Cert.Quant

/-! ## The constants -/

/-- The greatest finite bf16 number. -/
theorem ofBits_max : Ideal.ofBits .f32 0x7F7F0000#32 = ((255 * (2 : ℝ) ^ (120 : ℤ) : ℝ) : EReal) := by
  simp [Ideal.ofBits, Ideal.ieee, -EReal.coe_mul]
  norm_num

/-- The f32 number nearest to 1/448. -/
theorem ofBits_448 : Ideal.ofBits .f32 0x3B124925#32 = ((9586981 * (2 : ℝ) ^ (-32 : ℤ) : ℝ) : EReal) := by
  simp [Ideal.ofBits, Ideal.ieee, -EReal.coe_mul]

/-- The pattern of minus infinity. -/
theorem ofBits_bot : Ideal.ofBits .f32 0xFF800000#32 = (⊥ : EReal) := by
  simp [Ideal.ofBits, Ideal.ieee]

/-! ## The greatest magnitude of a row of finite elements -/

/-- A nonempty row of magnitudes at most a real `M` has a real greatest magnitude between 0 and `M`. -/
theorem amax_real (f : Fin 27648 → EReal) (M : ℝ) (h : ∀ k, max (f k) (-(f k)) ≤ (M : EReal)) :
    ∃ a : ℝ, amax f = (a : EReal) ∧ 0 ≤ a ∧ a ≤ M := by
  have hle : amax f ≤ (M : EReal) := by
    unfold amax
    rw [ofBits_bot]
    exact (Finset.fold_max_le _).mpr ⟨bot_le, fun k _ => h k⟩
  have hge : (0 : EReal) ≤ amax f := by
    unfold amax
    refine (Finset.le_fold_max _).mpr (Or.inr ⟨0, Finset.mem_univ _, ?_⟩)
    rcases le_total 0 (f 0) with h0 | h0
    · exact le_max_of_le_left h0
    · exact le_max_of_le_right (EReal.neg_nonneg.mpr h0)
  have hb : amax f ≠ ⊥ := fun e => by rw [e] at hge; exact absurd hge (by simp)
  have ht : amax f ≠ ⊤ := fun e => by rw [e] at hle; exact absurd hle (by simp)
  obtain ⟨a, ha⟩ : ∃ a : ℝ, amax f = (a : EReal) := ⟨(amax f).toReal, (EReal.coe_toReal ht hb).symm⟩
  rw [ha] at hle hge
  exact ⟨a, ha, EReal.coe_nonneg.mp hge, EReal.coe_le_coe_iff.mp hle⟩

/-- On a row of finite bf16 numbers the kernel's scale and reciprocal are the reference's. -/
theorem row_eq (f : Fin 27648 → EReal) (h : ∀ k, max (f k) (-(f k)) ≤ Ideal.ofBits .f32 0x7F7F0000#32) :
    krs f = rrs f ∧ kri f = rri f := by
  rw [ofBits_max] at h
  obtain ⟨a, ha, h0, hM⟩ := amax_real f _ h
  have ht : tval f = ((a * (9586981 * (2 : ℝ) ^ (-32 : ℤ)) : ℝ) : EReal) := by
    unfold tval; rw [ha, ofBits_448, ← EReal.coe_mul]
  unfold krs kri rrs rri
  rw [ht, ha]
  refine scale_eq (fun e => ?_) ?_
  · rw [EReal.coe_eq_zero.mp e, zero_mul]
  · have hc : (0 : ℝ) < 9586981 * (2 : ℝ) ^ (-32 : ℤ) := by positivity
    refine lt_of_le_of_lt (mul_le_mul_of_nonneg_right hM hc.le) ?_
    norm_num

/-! ## The precondition -/

/-- The magnitude of a widened vector compared with a splat constant, at an index. -/
theorem pre_apply {s : Shape} (x : FVec Ideal s .bf16) (hb : FTy.bf16.bits < FTy.f32.bits) (c : BitVec 32)
    (d : Fin 0 → Fin s.rank) (hbc : (⟨0, ![]⟩ : Shape).BroadcastsInDim s d) (j : s.Idx) :
    cmpf .ole (Host.absf (extf .f32 x hb)) (broadcastInDim s d hbc (constant (F := Ideal) ⟨0, ![]⟩ .f32 c)) j
      = Ideal.cmp .ole (max (x j : EReal) (-(x j))) (Ideal.ofBits .f32 c) := rfl

/-- An ordered comparison `≤` that reads 1 is a comparison of extended reals. -/
theorem le_of_cmp {a b : EReal} (h : Ideal.cmp .ole a b = 1#1) : a ≤ b := by
  by_contra hn
  simp [Ideal.cmp, hn] at h

/-- The precondition bounds every activation by the greatest finite bf16 number. -/
theorem pre_le (m : (ℓ : Loc Cert.KernelIdeal.nD Cert.KernelIdeal.τ Cert.KernelIdeal.sig) → Buf (Elt Ideal) ℓ)
    (h : Cert.Pre_KernelIdeal_finite_x (hPre_finite_x := Cert.Pre_finite_x.Gen.facts) m) (c : Dev Cert.KernelIdeal.nD) (j : SX.Idx) :
    max (Cert.KernelIdeal.Run.argx m c j : EReal) (-(Cert.KernelIdeal.Run.argx m c j)) ≤ Ideal.ofBits .f32 0x7F7F0000#32 := by
  have hj := congrFun (h c) j
  unfold Cert.Pre_finite_x.fn at hj
  exact le_of_cmp ((pre_apply _ _ _ _ _ _).symm.trans hj)

/-- Under the precondition the kernel's rules are the reference's on every row. -/
theorem rules_eq (m : (ℓ : Loc Cert.KernelIdeal.nD Cert.KernelIdeal.τ Cert.KernelIdeal.sig) → Buf (Elt Ideal) ℓ)
    (h : Cert.Pre_KernelIdeal_finite_x (hPre_finite_x := Cert.Pre_finite_x.Gen.facts) m) (c : Dev Cert.KernelIdeal.nD) (b : Fin 3) (s : Fin 1024) :
    krs (row3 (Cert.KernelIdeal.Run.argx m c) b s) = rrs (row3 (Cert.KernelIdeal.Run.argx m c) b s)
      ∧ kri (row3 (Cert.KernelIdeal.Run.argx m c) b s) = rri (row3 (Cert.KernelIdeal.Run.argx m c) b s) :=
  row_eq _ fun k => pre_le m h c (ix3 b s k)

/-- The value claim: from memories agreeing on the arguments, with finite activations, the idealized kernel and the
    idealized reference both run and end with equal results — the product, the codes and the scales. -/
theorem algebraic : Cert.algebraic_KernelIdeal_ReferenceIdeal_pre_finite_x (hKernelIdeal := Cert.KernelIdeal.Gen.facts)
    (hReferenceIdeal := Cert.ReferenceIdeal.Gen.facts) (hPre_finite_x := Cert.Pre_finite_x.Gen.facts) := by
  intro m g m' g' hp ha
  refine ⟨fun c => product3 krs kri (Cert.KernelIdeal.Run.argx m c) (Cert.KernelIdeal.Run.argw m c) (Cert.KernelIdeal.Run.argws m c),
    fun c => codes3 kri (Cert.KernelIdeal.Run.argx m c), fun c => scales3 krs (Cert.KernelIdeal.Run.argx m c),
    Cert.KernelIdeal.Run.run m g, ?_⟩
  refine (θ_run Cert.ReferenceIdeal.defs _ _).mono (fun r h c => ?_) (Cert.ReferenceIdeal.RefValue.run m' g')
  obtain ⟨h0, h1, h2, ht⟩ := h c
  obtain ⟨e0, e1, e2⟩ := ha c
  have hs := fun b s => (rules_eq m hp c b s).1
  have hi := fun b s => (rules_eq m hp c b s).2
  refine ⟨h0.trans ?_, h1.trans ?_, h2.trans ?_, ht⟩
  · rw [e0, e1, e2]
    exact (product3_congr _ _ hs hi).symm
  · rw [e0]
    exact (codes3_congr hi).symm
  · rw [e0]
    exact (scales3_congr hs).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_x
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Everything claimed: the kernel, its idealization and the idealized reference run, leave their arguments unchanged and end
    with every semaphore counter at zero; the idealization preserves the kernel; and, for finite activations, the idealized
    kernel's three results equal the idealized reference's. -/
theorem claim : Cert.Claim :=
  ⟨Cert.Kernel.Gen.facts, Cert.KernelIdeal.Gen.facts, Cert.ReferenceIdeal.Gen.facts, Cert.Pre_finite_x.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, Cert.Equal.algebraic⟩

end Cert.Proof

end
